-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x512 : Shape := ⟨2, ![2048, 512]⟩
abbrev S8x64x512 : Shape := ⟨3, ![8, 64, 512]⟩
abbrev S4x64x512 : Shape := ⟨3, ![4, 64, 512]⟩
abbrev S8 : Shape := ⟨1, ![8]⟩
abbrev S4 : Shape := ⟨1, ![4]⟩
abbrev S_ : Shape := ⟨0, ![]⟩
abbrev S1x64x512 : Shape := ⟨3, ![1, 64, 512]⟩
abbrev S64x512 : Shape := ⟨2, ![64, 512]⟩
abbrev S1 : Shape := ⟨1, ![1]⟩

abbrev nBuf : Space → Nat
  | .hbm => 2
  | .vmem => 8
  | .smem => 0
  | _ => 0

abbrev bufTy : (tb : Table) → Fin (tcTables nBuf tb) → BufTy
  | .hbm, ⟨0, _⟩ => ⟨S1x2048x1024, .bf16⟩
  | .hbm, ⟨1, _⟩ => ⟨S2048x512, .bf16⟩
  | .local _ .vmem, ⟨0, _⟩ => ⟨S1x2048x1024, .bf16⟩
  | .local _ .vmem, ⟨1, _⟩ => ⟨S2048x512, .bf16⟩
  | .local _ .vmem, ⟨2, _⟩ => ⟨S8x64x512, .bf16⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | .local _ .vmem, ⟨6, _⟩ => ⟨S4x64x512, .bf16⟩
  | .local _ .vmem, ⟨7, _⟩ => ⟨S4x64x512, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v28 : BitVec 32 := Scalar.muli v9 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32_22 v34
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_23 : BitVec 32 := 2#32
  let v36 : BitVec 32 := Scalar.muli v10 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v42 : BitVec 32 := Scalar.muli v5 c2_i32_28
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v44 : BitVec 32 := Scalar.muli v11 c1_i32_29
  let v45 : BitVec 32 := Scalar.addi v43 v44
  v45.toNat
def k0_off1 (d0 : Dev nD) (c0_i32_31 : BitVec 32) : Fin 3 → Nat :=
  let c0 : Index := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_30 : BitVec 32 := 512#32
  let v46 : BitVec 32 := Scalar.muli v13 c512_i32_30
  let v47 : BitVec 32 := Scalar.addi v46 c0_i32_31
  let v48 : Index := Scalar.indexCast v47
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c512_i32_15 : BitVec 32 := 512#32
  let v26 : BitVec 32 := Scalar.muli v25 c512_i32_15
  let v49 : Index := Scalar.indexCast v26
  ![0, v48.toNat, v49.toNat]
def k0_dev4 (d0 : Dev nD) : Nat :=
  let c0_i32_40 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_39 : BitVec 32 := 4#32
  let v55 : BitVec 32 := Scalar.muli v9 c4_i32_39
  let v56 : BitVec 32 := Scalar.addi c0_i32_40 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v57 : BitVec 32 := Scalar.muli v5 c2_i32_41
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v59 : BitVec 32 := Scalar.muli v8 c1_i32_42
  let v60 : BitVec 32 := Scalar.addi v58 v59
  v60.toNat
def k0_dev5 (d0 : Dev nD) : Nat :=
  let c0_i32_56 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_55 : BitVec 32 := 4#32
  let v78 : BitVec 32 := Scalar.muli v9 c4_i32_55
  let v79 : BitVec 32 := Scalar.addi c0_i32_56 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v80 : BitVec 32 := Scalar.muli v5 c2_i32_57
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v82 : BitVec 32 := Scalar.muli v8 c1_i32_58
  let v83 : BitVec 32 := Scalar.addi v81 v82
  v83.toNat
def k0_dev6 (d0 : Dev nD) : Nat :=
  let c0_i32_72 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_71 : BitVec 32 := 4#32
  let v101 : BitVec 32 := Scalar.muli v9 c4_i32_71
  let v102 : BitVec 32 := Scalar.addi c0_i32_72 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v103 : BitVec 32 := Scalar.muli v5 c2_i32_73
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v105 : BitVec 32 := Scalar.muli v8 c1_i32_74
  let v106 : BitVec 32 := Scalar.addi v104 v105
  v106.toNat
def k0_dev7 (d0 : Dev nD) : Nat :=
  let c0_i32_88 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_87 : BitVec 32 := 4#32
  let v124 : BitVec 32 := Scalar.muli v9 c4_i32_87
  let v125 : BitVec 32 := Scalar.addi c0_i32_88 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v126 : BitVec 32 := Scalar.muli v5 c2_i32_89
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v128 : BitVec 32 := Scalar.muli v8 c1_i32_90
  let v129 : BitVec 32 := Scalar.addi v127 v128
  v129.toNat
def k0_dev8 (d0 : Dev nD) : Nat :=
  let c0_i32_104 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_103 : BitVec 32 := 4#32
  let v147 : BitVec 32 := Scalar.muli v9 c4_i32_103
  let v148 : BitVec 32 := Scalar.addi c0_i32_104 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v149 : BitVec 32 := Scalar.muli v5 c2_i32_105
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v151 : BitVec 32 := Scalar.muli v8 c1_i32_106
  let v152 : BitVec 32 := Scalar.addi v150 v151
  v152.toNat
def k0_dev9 (d0 : Dev nD) : Nat :=
  let c0_i32_119 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_118 : BitVec 32 := 4#32
  let v170 : BitVec 32 := Scalar.muli v9 c4_i32_118
  let v171 : BitVec 32 := Scalar.addi c0_i32_119 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v172 : BitVec 32 := Scalar.muli v5 c2_i32_120
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v174 : BitVec 32 := Scalar.muli v8 c1_i32_121
  let v175 : BitVec 32 := Scalar.addi v173 v174
  v175.toNat
def k0_dev10 (d0 : Dev nD) : Nat :=
  let c0_i32_134 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_133 : BitVec 32 := 4#32
  let v193 : BitVec 32 := Scalar.muli v9 c4_i32_133
  let v194 : BitVec 32 := Scalar.addi c0_i32_134 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v195 : BitVec 32 := Scalar.muli v5 c2_i32_135
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v197 : BitVec 32 := Scalar.muli v8 c1_i32_136
  let v198 : BitVec 32 := Scalar.addi v196 v197
  v198.toNat
def k0_dev11 (d0 : Dev nD) : Nat :=
  let c0_i32_149 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_148 : BitVec 32 := 4#32
  let v216 : BitVec 32 := Scalar.muli v9 c4_i32_148
  let v217 : BitVec 32 := Scalar.addi c0_i32_149 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v218 : BitVec 32 := Scalar.muli v5 c2_i32_150
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v220 : BitVec 32 := Scalar.muli v8 c1_i32_151
  let v221 : BitVec 32 := Scalar.addi v219 v220
  v221.toNat
def k0_dev12 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v242 : BitVec 32 := Scalar.muli v2 c4_i32_172
  let v243 : BitVec 32 := Scalar.addi c0_i32_173 v242
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_174 : BitVec 32 := 2#32
  let v244 : BitVec 32 := Scalar.muli v10 c2_i32_174
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v246 : BitVec 32 := Scalar.muli v8 c1_i32_175
  let v247 : BitVec 32 := Scalar.addi v245 v246
  v247.toNat
def k0_dev13 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v256 : BitVec 32 := Scalar.muli v2 c4_i32_184
  let v257 : BitVec 32 := Scalar.addi c0_i32_185 v256
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v258 : BitVec 32 := Scalar.muli v5 c2_i32_186
  let v259 : BitVec 32 := Scalar.addi v257 v258
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_187 : BitVec 32 := 1#32
  let v260 : BitVec 32 := Scalar.muli v11 c1_i32_187
  let v261 : BitVec 32 := Scalar.addi v259 v260
  v261.toNat
def k0_off2 (d0 : Dev nD) (c0_i32_193 : BitVec 32) : Fin 3 → Nat :=
  let c0_194 : Index := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_192 : BitVec 32 := 512#32
  let v270 : BitVec 32 := Scalar.muli v13 c512_i32_192
  let v271 : BitVec 32 := Scalar.addi v270 c0_i32_193
  let v272 : Index := Scalar.indexCast v271
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v24 : BitVec 32 := Scalar.muli v2 c512_i32
  let v273 : Index := Scalar.indexCast v24
  ![0, v272.toNat, v273.toNat]
def k0_off3 (d0 : Dev nD) (c0_i32_199 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_198 : BitVec 32 := 512#32
  let v282 : BitVec 32 := Scalar.muli v13 c512_i32_198
  let v283 : BitVec 32 := Scalar.addi v282 c0_i32_199
  let v284 : Index := Scalar.indexCast v283
  let c0_200 : Index := 0#32
  ![v284.toNat, 0]
def k0_dev14 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v298 : BitVec 32 := Scalar.muli v2 c4_i32_217
  let v299 : BitVec 32 := Scalar.addi c0_i32_218 v298
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_219 : BitVec 32 := 2#32
  let v300 : BitVec 32 := Scalar.muli v10 c2_i32_219
  let v301 : BitVec 32 := Scalar.addi v299 v300
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v302 : BitVec 32 := Scalar.muli v8 c1_i32_220
  let v303 : BitVec 32 := Scalar.addi v301 v302
  v303.toNat
def k0_dev15 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v312 : BitVec 32 := Scalar.muli v2 c4_i32_229
  let v313 : BitVec 32 := Scalar.addi c0_i32_230 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v314 : BitVec 32 := Scalar.muli v5 c2_i32_231
  let v315 : BitVec 32 := Scalar.addi v313 v314
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_232 : BitVec 32 := 1#32
  let v316 : BitVec 32 := Scalar.muli v11 c1_i32_232
  let v317 : BitVec 32 := Scalar.addi v315 v316
  v317.toNat
def k0_dev16 (d0 : Dev nD) : Nat :=
  let c0_i32_263 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_262 : BitVec 32 := 4#32
  let v354 : BitVec 32 := Scalar.muli v2 c4_i32_262
  let v355 : BitVec 32 := Scalar.addi c0_i32_263 v354
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_264 : BitVec 32 := 2#32
  let v356 : BitVec 32 := Scalar.muli v10 c2_i32_264
  let v357 : BitVec 32 := Scalar.addi v355 v356
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v358 : BitVec 32 := Scalar.muli v8 c1_i32_265
  let v359 : BitVec 32 := Scalar.addi v357 v358
  v359.toNat
def k0_dev17 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v368 : BitVec 32 := Scalar.muli v2 c4_i32_274
  let v369 : BitVec 32 := Scalar.addi c0_i32_275 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v370 : BitVec 32 := Scalar.muli v5 c2_i32_276
  let v371 : BitVec 32 := Scalar.addi v369 v370
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_277 : BitVec 32 := 1#32
  let v372 : BitVec 32 := Scalar.muli v11 c1_i32_277
  let v373 : BitVec 32 := Scalar.addi v371 v372
  v373.toNat
def k0_dev18 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v410 : BitVec 32 := Scalar.muli v2 c4_i32_307
  let v411 : BitVec 32 := Scalar.addi c0_i32_308 v410
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_309 : BitVec 32 := 2#32
  let v412 : BitVec 32 := Scalar.muli v10 c2_i32_309
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v414 : BitVec 32 := Scalar.muli v8 c1_i32_310
  let v415 : BitVec 32 := Scalar.addi v413 v414
  v415.toNat
def k0_dev19 (d0 : Dev nD) : Nat :=
  let c0_i32_320 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_319 : BitVec 32 := 4#32
  let v424 : BitVec 32 := Scalar.muli v2 c4_i32_319
  let v425 : BitVec 32 := Scalar.addi c0_i32_320 v424
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_321 : BitVec 32 := 2#32
  let v426 : BitVec 32 := Scalar.muli v5 c2_i32_321
  let v427 : BitVec 32 := Scalar.addi v425 v426
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_322 : BitVec 32 := 1#32
  let v428 : BitVec 32 := Scalar.muli v11 c1_i32_322
  let v429 : BitVec 32 := Scalar.addi v427 v428
  v429.toNat
def k0_dev20 (d0 : Dev nD) : Nat :=
  let c0_i32_353 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_352 : BitVec 32 := 4#32
  let v466 : BitVec 32 := Scalar.muli v2 c4_i32_352
  let v467 : BitVec 32 := Scalar.addi c0_i32_353 v466
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_354 : BitVec 32 := 2#32
  let v468 : BitVec 32 := Scalar.muli v10 c2_i32_354
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_355 : BitVec 32 := 1#32
  let v470 : BitVec 32 := Scalar.muli v8 c1_i32_355
  let v471 : BitVec 32 := Scalar.addi v469 v470
  v471.toNat
def k0_dev21 (d0 : Dev nD) : Nat :=
  let c0_i32_365 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_364 : BitVec 32 := 4#32
  let v480 : BitVec 32 := Scalar.muli v2 c4_i32_364
  let v481 : BitVec 32 := Scalar.addi c0_i32_365 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_366 : BitVec 32 := 2#32
  let v482 : BitVec 32 := Scalar.muli v5 c2_i32_366
  let v483 : BitVec 32 := Scalar.addi v481 v482
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_367 : BitVec 32 := 1#32
  let v484 : BitVec 32 := Scalar.muli v11 c1_i32_367
  let v485 : BitVec 32 := Scalar.addi v483 v484
  v485.toNat
def k0_dev22 (d0 : Dev nD) : Nat :=
  let c0_i32_398 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_397 : BitVec 32 := 4#32
  let v522 : BitVec 32 := Scalar.muli v2 c4_i32_397
  let v523 : BitVec 32 := Scalar.addi c0_i32_398 v522
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_399 : BitVec 32 := 2#32
  let v524 : BitVec 32 := Scalar.muli v10 c2_i32_399
  let v525 : BitVec 32 := Scalar.addi v523 v524
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_400 : BitVec 32 := 1#32
  let v526 : BitVec 32 := Scalar.muli v8 c1_i32_400
  let v527 : BitVec 32 := Scalar.addi v525 v526
  v527.toNat
def k0_dev23 (d0 : Dev nD) : Nat :=
  let c0_i32_410 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_409 : BitVec 32 := 4#32
  let v536 : BitVec 32 := Scalar.muli v2 c4_i32_409
  let v537 : BitVec 32 := Scalar.addi c0_i32_410 v536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v538 : BitVec 32 := Scalar.muli v5 c2_i32_411
  let v539 : BitVec 32 := Scalar.addi v537 v538
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_412 : BitVec 32 := 1#32
  let v540 : BitVec 32 := Scalar.muli v11 c1_i32_412
  let v541 : BitVec 32 := Scalar.addi v539 v540
  v541.toNat
def k0_dev24 (d0 : Dev nD) : Nat :=
  let c0_i32_443 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_442 : BitVec 32 := 4#32
  let v578 : BitVec 32 := Scalar.muli v2 c4_i32_442
  let v579 : BitVec 32 := Scalar.addi c0_i32_443 v578
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_444 : BitVec 32 := 2#32
  let v580 : BitVec 32 := Scalar.muli v10 c2_i32_444
  let v581 : BitVec 32 := Scalar.addi v579 v580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_445 : BitVec 32 := 1#32
  let v582 : BitVec 32 := Scalar.muli v8 c1_i32_445
  let v583 : BitVec 32 := Scalar.addi v581 v582
  v583.toNat
def k0_dev25 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_454 : BitVec 32 := 4#32
  let v592 : BitVec 32 := Scalar.muli v2 c4_i32_454
  let v593 : BitVec 32 := Scalar.addi c0_i32_455 v592
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_456 : BitVec 32 := 2#32
  let v594 : BitVec 32 := Scalar.muli v5 c2_i32_456
  let v595 : BitVec 32 := Scalar.addi v593 v594
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_457 : BitVec 32 := 1#32
  let v596 : BitVec 32 := Scalar.muli v11 c1_i32_457
  let v597 : BitVec 32 := Scalar.addi v595 v596
  v597.toNat
def k0_dev26 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v634 : BitVec 32 := Scalar.muli v2 c4_i32_487
  let v635 : BitVec 32 := Scalar.addi c0_i32_488 v634
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_489 : BitVec 32 := 2#32
  let v636 : BitVec 32 := Scalar.muli v10 c2_i32_489
  let v637 : BitVec 32 := Scalar.addi v635 v636
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_490 : BitVec 32 := 1#32
  let v638 : BitVec 32 := Scalar.muli v8 c1_i32_490
  let v639 : BitVec 32 := Scalar.addi v637 v638
  v639.toNat
def k0_dev27 (d0 : Dev nD) : Nat :=
  let c0_i32_500 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_499 : BitVec 32 := 4#32
  let v648 : BitVec 32 := Scalar.muli v2 c4_i32_499
  let v649 : BitVec 32 := Scalar.addi c0_i32_500 v648
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_501 : BitVec 32 := 2#32
  let v650 : BitVec 32 := Scalar.muli v5 c2_i32_501
  let v651 : BitVec 32 := Scalar.addi v649 v650
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_502 : BitVec 32 := 1#32
  let v652 : BitVec 32 := Scalar.muli v11 c1_i32_502
  let v653 : BitVec 32 := Scalar.addi v651 v652
  v653.toNat
def k0_off4 (d0 : Dev nD) (c0_i32_529 : BitVec 32) : Fin 3 → Nat :=
  let c0_530 : Index := 0#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_528 : BitVec 32 := 512#32
  let v690 : BitVec 32 := Scalar.muli v16 c512_i32_528
  let v691 : BitVec 32 := Scalar.addi v690 c0_i32_529
  let v692 : Index := Scalar.indexCast v691
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v24 : BitVec 32 := Scalar.muli v2 c512_i32
  let v693 : Index := Scalar.indexCast v24
  ![0, v692.toNat, v693.toNat]
def k0_off5 (d0 : Dev nD) (c0_i32_535 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_534 : BitVec 32 := 512#32
  let v702 : BitVec 32 := Scalar.muli v16 c512_i32_534
  let v703 : BitVec 32 := Scalar.addi v702 c0_i32_535
  let v704 : Index := Scalar.indexCast v703
  let c0_536 : Index := 0#32
  ![v704.toNat, 0]
def k0_dev28 (d0 : Dev nD) : Nat :=
  let c0_i32_617 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_616 : BitVec 32 := 4#32
  let v802 : BitVec 32 := Scalar.muli v2 c4_i32_616
  let v803 : BitVec 32 := Scalar.addi c0_i32_617 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_618 : BitVec 32 := 2#32
  let v804 : BitVec 32 := Scalar.muli v5 c2_i32_618
  let v805 : BitVec 32 := Scalar.addi v803 v804
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_619 : BitVec 32 := 1#32
  let v806 : BitVec 32 := Scalar.muli v11 c1_i32_619
  let v807 : BitVec 32 := Scalar.addi v805 v806
  v807.toNat
def k0_dev29 (d0 : Dev nD) : Nat :=
  let c0_i32_650 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_649 : BitVec 32 := 4#32
  let v844 : BitVec 32 := Scalar.muli v2 c4_i32_649
  let v845 : BitVec 32 := Scalar.addi c0_i32_650 v844
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_651 : BitVec 32 := 2#32
  let v846 : BitVec 32 := Scalar.muli v5 c2_i32_651
  let v847 : BitVec 32 := Scalar.addi v845 v846
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_652 : BitVec 32 := 1#32
  let v848 : BitVec 32 := Scalar.muli v11 c1_i32_652
  let v849 : BitVec 32 := Scalar.addi v847 v848
  v849.toNat
def k0_dev30 (d0 : Dev nD) : Nat :=
  let c0_i32_683 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_682 : BitVec 32 := 4#32
  let v886 : BitVec 32 := Scalar.muli v2 c4_i32_682
  let v887 : BitVec 32 := Scalar.addi c0_i32_683 v886
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_684 : BitVec 32 := 2#32
  let v888 : BitVec 32 := Scalar.muli v5 c2_i32_684
  let v889 : BitVec 32 := Scalar.addi v887 v888
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_685 : BitVec 32 := 1#32
  let v890 : BitVec 32 := Scalar.muli v11 c1_i32_685
  let v891 : BitVec 32 := Scalar.addi v889 v890
  v891.toNat
def k0_dev31 (d0 : Dev nD) : Nat :=
  let c0_i32_716 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_715 : BitVec 32 := 4#32
  let v928 : BitVec 32 := Scalar.muli v2 c4_i32_715
  let v929 : BitVec 32 := Scalar.addi c0_i32_716 v928
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_717 : BitVec 32 := 2#32
  let v930 : BitVec 32 := Scalar.muli v5 c2_i32_717
  let v931 : BitVec 32 := Scalar.addi v929 v930
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_718 : BitVec 32 := 1#32
  let v932 : BitVec 32 := Scalar.muli v11 c1_i32_718
  let v933 : BitVec 32 := Scalar.addi v931 v932
  v933.toNat
def k0_dev32 (d0 : Dev nD) : Nat :=
  let c0_i32_749 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_748 : BitVec 32 := 4#32
  let v970 : BitVec 32 := Scalar.muli v2 c4_i32_748
  let v971 : BitVec 32 := Scalar.addi c0_i32_749 v970
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_750 : BitVec 32 := 2#32
  let v972 : BitVec 32 := Scalar.muli v10 c2_i32_750
  let v973 : BitVec 32 := Scalar.addi v971 v972
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_751 : BitVec 32 := 1#32
  let v974 : BitVec 32 := Scalar.muli v8 c1_i32_751
  let v975 : BitVec 32 := Scalar.addi v973 v974
  v975.toNat
def k0_off6 (d0 : Dev nD) (c0_i32_757 : BitVec 32) : Fin 3 → Nat :=
  let c0_758 : Index := 0#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c512_i32_756 : BitVec 32 := 512#32
  let v984 : BitVec 32 := Scalar.muli v19 c512_i32_756
  let v985 : BitVec 32 := Scalar.addi v984 c0_i32_757
  let v986 : Index := Scalar.indexCast v985
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v24 : BitVec 32 := Scalar.muli v2 c512_i32
  let v987 : Index := Scalar.indexCast v24
  ![0, v986.toNat, v987.toNat]
def k0_off7 (d0 : Dev nD) (c0_i32_763 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c512_i32_762 : BitVec 32 := 512#32
  let v996 : BitVec 32 := Scalar.muli v19 c512_i32_762
  let v997 : BitVec 32 := Scalar.addi v996 c0_i32_763
  let v998 : Index := Scalar.indexCast v997
  let c0_764 : Index := 0#32
  ![v998.toNat, 0]
def k0_dev33 (d0 : Dev nD) : Nat :=
  let c0_i32_782 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_781 : BitVec 32 := 4#32
  let v1012 : BitVec 32 := Scalar.muli v2 c4_i32_781
  let v1013 : BitVec 32 := Scalar.addi c0_i32_782 v1012
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_783 : BitVec 32 := 2#32
  let v1014 : BitVec 32 := Scalar.muli v10 c2_i32_783
  let v1015 : BitVec 32 := Scalar.addi v1013 v1014
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_784 : BitVec 32 := 1#32
  let v1016 : BitVec 32 := Scalar.muli v8 c1_i32_784
  let v1017 : BitVec 32 := Scalar.addi v1015 v1016
  v1017.toNat
def k0_dev34 (d0 : Dev nD) : Nat :=
  let c0_i32_815 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_814 : BitVec 32 := 4#32
  let v1054 : BitVec 32 := Scalar.muli v2 c4_i32_814
  let v1055 : BitVec 32 := Scalar.addi c0_i32_815 v1054
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_816 : BitVec 32 := 2#32
  let v1056 : BitVec 32 := Scalar.muli v10 c2_i32_816
  let v1057 : BitVec 32 := Scalar.addi v1055 v1056
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_817 : BitVec 32 := 1#32
  let v1058 : BitVec 32 := Scalar.muli v8 c1_i32_817
  let v1059 : BitVec 32 := Scalar.addi v1057 v1058
  v1059.toNat
def k0_dev35 (d0 : Dev nD) : Nat :=
  let c0_i32_848 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_847 : BitVec 32 := 4#32
  let v1096 : BitVec 32 := Scalar.muli v2 c4_i32_847
  let v1097 : BitVec 32 := Scalar.addi c0_i32_848 v1096
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_849 : BitVec 32 := 2#32
  let v1098 : BitVec 32 := Scalar.muli v10 c2_i32_849
  let v1099 : BitVec 32 := Scalar.addi v1097 v1098
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_850 : BitVec 32 := 1#32
  let v1100 : BitVec 32 := Scalar.muli v8 c1_i32_850
  let v1101 : BitVec 32 := Scalar.addi v1099 v1100
  v1101.toNat
def k0_off8 (d0 : Dev nD) (c0_i32_961 : BitVec 32) : Fin 3 → Nat :=
  let c0_962 : Index := 0#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_960 : BitVec 32 := 512#32
  let v1250 : BitVec 32 := Scalar.muli v23 c512_i32_960
  let v1251 : BitVec 32 := Scalar.addi v1250 c0_i32_961
  let v1252 : Index := Scalar.indexCast v1251
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v24 : BitVec 32 := Scalar.muli v2 c512_i32
  let v1253 : Index := Scalar.indexCast v24
  ![0, v1252.toNat, v1253.toNat]
def k0_off9 (d0 : Dev nD) (c0_i32_967 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_966 : BitVec 32 := 512#32
  let v1262 : BitVec 32 := Scalar.muli v23 c512_i32_966
  let v1263 : BitVec 32 := Scalar.addi v1262 c0_i32_967
  let v1264 : Index := Scalar.indexCast v1263
  let c0_968 : Index := 0#32
  ![v1264.toNat, 0]
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .f32⟩
  | .hbm, ⟨2, _⟩ => ⟨S_, .f32⟩
  | .hbm, ⟨3, _⟩ => ⟨S2048x1024, .f32⟩
  | .hbm, ⟨4, _⟩ => ⟨S2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/- The kernel of v03 as a program over its links: the five families of remote copies (`Lk`), the slot each copy reads and the
   slot it lands in, the device it goes to and the two semaphores it counts on; the few steps the body repeats — stage
   a chunk, start a copy, wait for one, fold a chunk into the result —; and the body as phases that run those steps over
   lists of chunk numbers, which is the printed body. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Run

open Cert.KernelIdeal Cert.KernelIdeal.Gen
open Idealize.ShloMosaic
open Idealize.ShloMosaic.TcCoe
open Idealize.SL.Sem

variable {F : FTy → Type} [FloatOps F]

/-- One device's program inside the kernel. -/
abbrev PP (F : FTy → Type) : Type → Type 1 := Prog (TpuEff nD τ sig (Elt F) Λ₀ .tc)

/-! ## Links -/

/-- A remote copy the kernel makes: `x k` sends staged chunk `k` across the x axis, `y k` and `z k` pass the chunk that
    came over x on across y and across z, `yg k` and `zg k` pass on across the other axis what came over z and over y. -/
inductive Lk
  | x (k : Fin 8) | y (k : Fin 8) | z (k : Fin 8) | yg (k : Fin 4) | zg (k : Fin 4)
deriving DecidableEq

/-- A stack of `n` slots of 64 rows. -/
abbrev SH (n : ℕ) : Shape := ⟨3, ![n, 64, 512]⟩

theorem inbS {n : ℕ} (k : Fin n) : ∀ a, (![k.val, 0, 0] : Fin 3 → Nat) a + S1x64x512.size a ≤ (SH n).size a := by
  have hk : k.val + 1 ≤ n := k.isLt
  intro a; fin_cases a <;> simp [Shape.size] <;> omega

/-- Slot `k` of a stack, as a rectangle of it. -/
abbrev slotR {n : ℕ} (k : Fin n) : Rect (SH n) := Rect.unit (s := SH n) ![k.val, 0, 0] S1x64x512.size (inbS k)

/-- Slot `k` of a stack, as a memref of 64 rows. -/
abbrev slot {n : ℕ} (M : Memref sig .tc .vmem (SH n) .bf16) (k : Fin n) : Memref sig .tc .vmem S64x512 .bf16 :=
  (M.slice (slotR k) (fun _ => rfl)).squeeze S64x512 squeezes_S1x64x512_S64x512

theorem slotR8_words : ∀ k : Fin 8, (slotR k).WholeWords (EltTy.packing .bf16) := by decide +kernel
theorem slotR4_words : ∀ k : Fin 4, (slotR k).WholeWords (EltTy.packing .bf16) := by decide +kernel
theorem slotR8_packed : ∀ k : Fin 8, (slotR k).PackedRows (EltTy.packing .bf16) := by decide +kernel

abbrev xM : Memref sig .tc .vmem S1x2048x1024 .bf16 := Memref.whole cc0_stg0_0
abbrev oM : Memref sig .tc .vmem S2048x512 .bf16 := Memref.whole cc0_stg1_0
abbrev stM : Memref sig .tc .vmem S8x64x512 .bf16 := Memref.whole cc0_scratch0
abbrev rxM : Memref sig .tc .vmem S8x64x512 .bf16 := Memref.whole cc0_scratch1
abbrev ydM : Memref sig .tc .vmem S8x64x512 .bf16 := Memref.whole cc0_scratch2
abbrev zdM : Memref sig .tc .vmem S8x64x512 .bf16 := Memref.whole cc0_scratch3
abbrev ygM : Memref sig .tc .vmem S4x64x512 .bf16 := Memref.whole cc0_scratch4
abbrev zgM : Memref sig .tc .vmem S4x64x512 .bf16 := Memref.whole cc0_scratch5

/-- The upper four of eight chunk numbers. -/
def up (k : Fin 4) : Fin 8 := ⟨k.val + 4, by omega⟩
/-- The lower four. -/
def dn (k : Fin 4) : Fin 8 := ⟨k.val, by omega⟩

namespace Lk

/-- The slot a link's copy reads, on the sender. -/
def src : Lk → Memref sig .tc .vmem S64x512 .bf16
  | x k => slot stM k
  | y k => slot rxM k
  | z k => slot rxM k
  | yg k => slot zdM (dn k)
  | zg k => slot ydM (up k)

/-- The slot it lands in, on the receiver. -/
def dst : Lk → Memref sig .tc .vmem S64x512 .bf16
  | x k => slot rxM k
  | y k => slot ydM k
  | z k => slot zdM k
  | yg k => slot ygM k
  | zg k => slot zgM k

/-- The semaphore the sender counts it on. -/
def snd : Lk → DmaSem sig
  | x k => ⟨2 + k.val, by have := k.isLt; show _ < 66; omega⟩
  | y k => ⟨18 + k.val, by have := k.isLt; show _ < 66; omega⟩
  | z k => ⟨34 + k.val, by have := k.isLt; show _ < 66; omega⟩
  | yg k => ⟨50 + k.val, by have := k.isLt; show _ < 66; omega⟩
  | zg k => ⟨58 + k.val, by have := k.isLt; show _ < 66; omega⟩

/-- The semaphore it counts on at the receiver. -/
def rcv : Lk → DmaSem sig
  | x k => ⟨10 + k.val, by have := k.isLt; show _ < 66; omega⟩
  | y k => ⟨26 + k.val, by have := k.isLt; show _ < 66; omega⟩
  | z k => ⟨42 + k.val, by have := k.isLt; show _ < 66; omega⟩
  | yg k => ⟨54 + k.val, by have := k.isLt; show _ < 66; omega⟩
  | zg k => ⟨62 + k.val, by have := k.isLt; show _ < 66; omega⟩

end Lk

/-- The device across the x axis. -/
def px (c : Dev nD) : Dev nD := ⟨k0_dev1 c, k0_dev1_lt c⟩
/-- The device across the y axis. -/
def qy (c : Dev nD) : Dev nD := ⟨k0_dev2 c, k0_dev2_lt c⟩
/-- The device across the z axis. -/
def qz (c : Dev nD) : Dev nD := ⟨k0_dev3 c, k0_dev3_lt c⟩

/-- The device a link goes to (and, links being symmetric, comes from). -/
def peer (c : Dev nD) : Lk → Dev nD
  | .x _ => px c | .y _ => qy c | .z _ => qz c | .yg _ => qy c | .zg _ => qz c

theorem slot8_wordExact (b : Memref sig .tc .vmem S8x64x512 .bf16) (hb : b.IsWhole) (k : Fin 8) : (slot b k).view.WordExact :=
  (hb.wordExact_slice rfl _ (slotR8_words k)).reshape _ _
theorem slot4_wordExact (b : Memref sig .tc .vmem S4x64x512 .bf16) (hb : b.IsWhole) (k : Fin 4) : (slot b k).view.WordExact :=
  (hb.wordExact_slice rfl _ (slotR4_words k)).reshape _ _

theorem Lk.src_wordExact : ∀ l : Lk, l.src.view.WordExact
  | .x k => slot8_wordExact _ (Memref.isWhole_whole _) _
  | .y k => slot8_wordExact _ (Memref.isWhole_whole _) _
  | .z k => slot8_wordExact _ (Memref.isWhole_whole _) _
  | .yg k => slot8_wordExact _ (Memref.isWhole_whole _) _
  | .zg k => slot8_wordExact _ (Memref.isWhole_whole _) _
theorem Lk.dst_wordExact : ∀ l : Lk, l.dst.view.WordExact
  | .x k => slot8_wordExact _ (Memref.isWhole_whole _) _
  | .y k => slot8_wordExact _ (Memref.isWhole_whole _) _
  | .z k => slot8_wordExact _ (Memref.isWhole_whole _) _
  | .yg k => slot4_wordExact _ (Memref.isWhole_whole _) _
  | .zg k => slot4_wordExact _ (Memref.isWhole_whole _) _

/-! ## The steps -/

/-- Start a link's copy. -/
def sendP (c : Dev nD) (l : Lk) : PP F PUnit :=
  Prog.lift (.enqueueDma l.src (.remote (Dev.tc (peer c l)) l.dst (.dma l.snd)) (.dma l.rcv) l.src_wordExact l.dst_wordExact
    (by cases l <;> exact ⟨⟨rfl, Or.inl rfl⟩, trivial⟩))

/-- Wait for a link's arrival. -/
def waitP (l : Lk) : PP F PUnit := Prog.lift (.waitDma2 l.rcv l.src l.dst l.src_wordExact l.dst_wordExact)
/-- Wait until a link's copy has left. -/
def leftP (l : Lk) : PP F PUnit := Prog.lift (.waitDma2 l.snd l.dst l.src l.dst_wordExact l.src_wordExact)

/-- Read 64 rows of 512 columns of the device's block of the argument. -/
def loadX (o : Fin 3 → Nat) (h : ∀ a, o a + S1x64x512.size a ≤ S1x2048x1024.size a) : PP F (Vec F S1x64x512 .bf16) :=
  Prog.lift (.load xM (Rect.unit (s := S1x2048x1024) o S1x64x512.size h).toLoadRect (View.loadsAt_vmem h_S1x64x512))

/-- Read a slot of a stack. -/
def loadS {n : ℕ} (M : Memref sig .tc .vmem (SH n) .bf16) (k : Fin n) : PP F (Vec F S1x64x512 .bf16) :=
  Prog.lift (.load M (slotR k).toLoadRect (View.loadsAt_vmem h_S1x64x512))

/-- Stage chunk `k`: the rows the device owns, the columns its x neighbour keeps. -/
def stageP (c : Dev nD) (k : Fin 8) : PP F PUnit := do
  let v ← loadX (k0_off1 c (BitVec.ofNat 32 (64 * k.val))) (k0_off1_inb c k)
  let _ ← loadS stM k
  Prog.lift (.store stM (slotR k) (k0_pay1 v) Finset.univ
    (View.stores_vmem h_S1x64x512 ((Memref.isWhole_whole cc0_scratch0).storeExact_slice rfl _ (slotR8_packed k)) (fun _ => rfl)) (.inl rfl))

/-- A rectangle's worth of the result: 64 rows, all columns, stored at `o`. -/
def storeO (o : Fin 2 → Nat) (h : ∀ a, o a + S64x512.size a ≤ S2048x512.size a)
    (hp : (Rect.unit (s := S2048x512) o S64x512.size h).PackedRows (EltTy.packing .bf16)) (v : FVec F S64x512 .bf16) : PP F PUnit :=
  Prog.lift (.store oM (Rect.unit (s := S2048x512) o S64x512.size h) v Finset.univ
    (View.stores_vmem h_S64x512 ((Memref.isWhole_whole cc0_stg1_0).storeExact_slice rfl _ hp) (fun _ => rfl)) (.inl rfl))

/-- Read 64 rows of the result buffer. -/
def loadO (o : Fin 2 → Nat) (h : ∀ a, o a + S64x512.size a ≤ S2048x512.size a) : PP F (Vec F S64x512 .bf16) :=
  Prog.lift (.load oM (Rect.unit (s := S2048x512) o S64x512.size h).toLoadRect (View.loadsAt_vmem h_S64x512))

/-- Fold a chunk: the device's own 64 rows plus the 64 rows read by `ld`, stored in the result. -/
def foldP (ld : PP F (Vec F S1x64x512 .bf16)) (ox : Fin 3 → Nat) (hx : ∀ a, ox a + S1x64x512.size a ≤ S1x2048x1024.size a)
    (oo : Fin 2 → Nat) (ho : ∀ a, oo a + S64x512.size a ≤ S2048x512.size a)
    (hp : (Rect.unit (s := S2048x512) oo S64x512.size ho).PackedRows (EltTy.packing .bf16)) : PP F PUnit := do
  let a ← loadX ox hx
  let b ← ld
  let _ ← loadO oo ho
  storeO oo ho hp (k0_pay10 a b)

/-- Fold the chunk a link brought. -/
def foldL (c : Dev nD) : Lk → PP F PUnit
  | .x k => foldP (loadS rxM k) _ (k0_off2_inb c k) _ (k0_off3_inb c k) (k0_off3_packedbf16 c k)
  | .y k => foldP (loadS ydM k) _ (k0_off4_inb c k) _ (k0_off5_inb c k) (k0_off5_packedbf16 c k)
  | .z k => foldP (loadS zdM k) _ (k0_off6_inb c k) _ (k0_off7_inb c k) (k0_off7_packedbf16 c k)
  | .yg k => foldP (loadS ygM k) _ (k0_off8_inb c (dn k)) _ (k0_off9_inb c (dn k)) (k0_off9_packedbf16 c (dn k))
  | .zg k => foldP (loadS zgM k) _ (k0_off8_inb c (up k)) _ (k0_off9_inb c (up k)) (k0_off9_packedbf16 c (up k))

/-- Run a step at each element of a list, in order. -/
def forP {α : Type} (f : α → PP F PUnit) : List α → PP F PUnit
  | [] => pure ⟨⟩
  | a :: l => do f a; forP f l

/-- The barrier semaphore. -/
abbrev barS : Sem sig := (SemArray.scalar (sig.barrier 0 rfl) : Sems sig S_).sem

abbrev all8 : List (Fin 8) := [0, 1, 2, 3, 4, 5, 6, 7]
abbrev all4 : List (Fin 4) := [0, 1, 2, 3]

/-- Tell the three neighbours this device is in the kernel, and wait for all three. -/
def barrierP (c : Dev nD) : PP F PUnit := do
  semSignalWord (px c) barS 1#32
  semSignalWord (qy c) barS 1#32
  semSignalWord (qz c) barS 1#32
  semWaitWord barS 3#32

/-- Stage chunk `k` and send it across x. -/
def xStep (c : Dev nD) (k : Fin 8) : PP F PUnit := do stageP c k; sendP c (.x k)
/-- Take chunk `k` in from x, pass it on across y and z, fold it. -/
def rStep (c : Dev nD) (k : Fin 8) : PP F PUnit := do waitP (.x k); sendP c (.y k); sendP c (.z k); foldL c (.x k)
/-- Take in what a link brings and fold it. -/
def foldStep (c : Dev nD) (l : Lk) : PP F PUnit := do waitP l; foldL c l
/-- Take in what a link brings, pass it on over a second link, fold it. -/
def relayStep (c : Dev nD) (p : Lk × Lk) : PP F PUnit := do waitP p.1; sendP c p.2; foldL c p.1

/-- The links in the order their copies are waited out at the end. -/
abbrev lefts : List Lk := all8.map .x ++ all8.map .y ++ all8.map .z ++ all4.map .yg ++ all4.map .zg

/-- One device's body. -/
def bodyP (c : Dev nD) : PP F PUnit := do
  barrierP c
  forP (xStep c) all8
  forP (rStep c) all8
  forP (fun k => foldStep c (.y (dn k))) all4
  forP (fun k => relayStep c (.y (up k), .zg k)) all4
  forP (fun k => relayStep c (.z (dn k), .yg k)) all4
  forP (fun k => foldStep c (.z (up k))) all4
  forP (fun k => foldStep c (.yg k)) all4
  forP (fun k => foldStep c (.zg k)) all4
  forP leftP lefts

/-- The printed body is the phases above, run at the device's own number. -/
theorem body_eq : cc0_body (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15
    = (do let d ← Prog.lift (.deviceId); bodyP d) := by
  chain_rfl

end Cert.KernelIdeal.Run

end
-- ==== Proof.Sched.lean ====
/- The protocol between the devices. Every device has one barrier cell and, per link, a send cell and a receive cell; each
   of them runs one round. The barrier cell's three duties are the three neighbours' signals: each hands over the slots
   the signaller will be sent into by this device. A send cell hands the sender back its slot; a receive cell hands the
   receiver its slot, holding what the sender's slot held. This module names the contents, states the schedule of the
   cells, what a device owes, and the order in which it may wait. -/
module

public import proofs.«01_k».proof.Proof.Steps
public import Idealize.ShloMosaic.Lib.Pipeline.Launch
public import Idealize.ShloMosaic.Lib.Pipeline.BigSepL
public import Idealize.ShloMosaic.Lib.Rounds
public import Idealize.ShloMosaic.Lib.Memref
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

theorem px_px (c : Dev nD) : px (px c) = c := by revert c; decide +kernel
theorem qy_qy (c : Dev nD) : qy (qy c) = c := by revert c; decide +kernel
theorem qz_qz (c : Dev nD) : qz (qz c) = c := by revert c; decide +kernel
/-- A link's two ends name each other. -/
theorem peer_peer (c : Dev nD) (l : Lk) : peer (peer c l) l = c := by
  cases l
  · exact px_px c
  · exact qy_qy c
  · exact qz_qz c
  · exact qy_qy c
  · exact qz_qz c

theorem lefts_nodup : lefts.Nodup := by decide +kernel
theorem mem_lefts (l : Lk) : l ∈ lefts := by
  cases l <;> rename_i k <;> revert k <;> decide +kernel
instance : Fintype Lk := ⟨⟨lefts, lefts_nodup⟩, mem_lefts⟩
theorem univ_lefts : (Finset.univ : Finset Lk) = lefts.toFinset := by
  ext l; simp only [Finset.mem_univ, true_iff, List.mem_toFinset]; exact mem_lefts l

/-- The links as a device starts their copies. -/
abbrev order : List Lk := all8.map Lk.x ++ (all8.flatMap (fun k => [Lk.y k, Lk.z k]) ++ (all4.map Lk.zg ++ all4.map Lk.yg))

/-! ## Contents -/

/-- What every device's argument block holds, staged in its vector memory. -/
abbrev XS (F : FTy → Type) : Type := Dev nD → (cc0_stg0_0 : Ref sig .tc).ty.Contents (Elt F)

variable (X : XS F)

/-- Rows and columns of the argument block device `e` stages as chunk `k`. -/
abbrev xR (e : Dev nD) (k : Fin 8) : Rect S1x2048x1024 :=
  Rect.unit (s := S1x2048x1024) (k0_off1 e (BitVec.ofNat 32 (64 * k.val))) S1x64x512.size (k0_off1_inb e k)

/-- The chunk `k` that device `e` stages. -/
def sv (e : Dev nD) (k : Fin 8) : Vec F S64x512 .bf16 :=
  shapeCast S64x512 ((xM.access (xR e k)).read (Elt F) (X e)) shapeCasts_S1x64x512_S64x512

/-- The device whose staged chunk a link carries when `c` sends over it, -/
def org (c : Dev nD) : Lk → Dev nD
  | .x _ => c | .y _ => px c | .z _ => px c | .yg _ => px (qz c) | .zg _ => px (qy c)
/-- and which chunk. -/
def chk : Lk → Fin 8
  | .x k => k | .y k => k | .z k => k | .yg k => dn k | .zg k => up k
/-- What a link carries when `c` sends over it. -/
abbrev val (c : Dev nD) (l : Lk) : Vec F S64x512 .bf16 := sv X (org c l) (chk l)

/-- The share of its source slot a link's copy reads under. -/
def Lk.q : Lk → PosShare TreeShare
  | .x _ => fullShare | .y _ => fullShare.left | .z _ => fullShare.right.left | .yg _ => fullShare.left | .zg _ => fullShare.left

/-- A link's landing slot at device `d`, at any contents. -/
def land (d : Dev nD) (l : Lk) : sProp 𝕄 := iprop(∃ Y : Vec F S64x512 .bf16, owns (d : Thread nD τ) l.dst fullShare Y)
/-- What a send cell hands back. -/
def sndPay (c : Dev nD) (l : Lk) : sProp 𝕄 := owns (c : Thread nD τ) l.src l.q (val X c l)
/-- What a receive cell hands over. -/
def rcvPay (c : Dev nD) (l : Lk) : sProp 𝕄 := owns (c : Thread nD τ) l.dst fullShare (val X (peer c l) l)

/-- The links over each axis. -/
def axis : Fin 3 → List Lk
  | 0 => all8.map Lk.x
  | 1 => all8.map Lk.y ++ all4.map Lk.yg
  | 2 => all8.map Lk.z ++ all4.map Lk.zg
/-- What the neighbour across an axis hands over with its signal: its landing slots of that axis's links. -/
def barPay (c : Dev nD) (d : Fin 3) : sProp 𝕄 := bigSepL (axis d) fun l => land (F := F) (peer c l) l

omit [FloatOps F] in
instance land_storable (d : Dev nD) (l : Lk) : BI.Storable (upEmb : UEmb _ 𝕄) (land (F := F) d l) := by unfold land; infer_instance
instance sndPay_storable (c : Dev nD) (l : Lk) : BI.Storable (upEmb : UEmb _ 𝕄) (sndPay X c l) := by unfold sndPay; infer_instance
instance rcvPay_storable (c : Dev nD) (l : Lk) : BI.Storable (upEmb : UEmb _ 𝕄) (rcvPay X c l) := by unfold rcvPay; infer_instance
omit [FloatOps F] in
theorem bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => show BI.Storable upEmb (iprop(emp) : sProp 𝕄); infer_instance
  | cons a l ih => rw [bigSepL_cons']; infer_instance
omit [FloatOps F] in
instance barPay_storable (c : Dev nD) (d : Fin 3) : BI.Storable (upEmb : UEmb _ 𝕄) (barPay (F := F) c d) := bigSepL_storable _ _

/-! ## Cells -/

abbrev barCell (c : Dev nD) : GSem nD τ sig := ((c : Thread nD τ), .reg barS)
abbrev sndCell (c : Dev nD) (l : Lk) : GSem nD τ sig := ((c : Thread nD τ), .dma l.snd)
abbrev rcvCell (c : Dev nD) (l : Lk) : GSem nD τ sig := ((c : Thread nD τ), .dma l.rcv)

/-- The link a semaphore counts, and on which side. -/
def dec (s : DmaSem sig) : Option (Bool × Lk) :=
  match lefts.find? (fun l => decide (l.snd = s)) with
  | some l => some (false, l)
  | none => (lefts.find? (fun l => decide (l.rcv = s))).map fun l => (true, l)

theorem dec_snd (l : Lk) : dec l.snd = some (false, l) := by revert l; decide +kernel
theorem dec_rcv (l : Lk) : dec l.rcv = some (true, l) := by revert l; decide +kernel

/-- What one copy counts. -/
def N : ℕ := (slot stM 0).view.dmaCredit
theorem N_pos : 0 < N := View.dmaCredit_pos _ (by decide)
theorem src_credit (l : Lk) : l.src.view.dmaCredit = N := by cases l <;> rfl
theorem dst_credit (l : Lk) : l.dst.view.dmaCredit = N := by cases l <;> rfl

/-- One round: a barrier cell has the three neighbours' duties of one unit each; a send or receive cell the one duty of
    the copy's count. -/
def Rd : Rounds.Schedule (GSem nD τ sig) (Fin 3) 𝕄 where
  duties g r := if r = 0 ∧ g.1.2 = .tc then
      (match g.2 with
        | .reg s => if s = barS then Finset.univ else ∅
        | .dma s => if (dec s).isSome then {0} else ∅)
    else ∅
  unitless _ := False
  amount g _ _ := match g.2 with | .reg _ => 1 | .dma _ => N
  payload g _ d := match g.2 with
    | .reg _ => barPay (F := F) g.1.1 d
    | .dma s => match dec s with
      | none => iprop(emp)
      | some (false, l) => sndPay X g.1.1 l
      | some (true, l) => rcvPay X g.1.1 l
  amount_pos g _ _ _ := by
    rcases g with ⟨_, _ | _⟩
    · exact Nat.one_pos
    · exact N_pos

instance Rd_storable (g : GSem nD τ sig) (r : ℕ) (d : Fin 3) : BI.Storable (upEmb : UEmb _ 𝕄) ((Rd (F := F) X).payload g r d) := by
  rcases g with ⟨t, s | s⟩
  · show BI.Storable upEmb (barPay (F := F) t.1 d); infer_instance
  · show BI.Storable upEmb (match dec s with
      | none => iprop(emp)
      | some (false, l) => sndPay X t.1 l
      | some (true, l) => rcvPay X t.1 l)
    split <;> infer_instance

section Sched
variable (c : Dev nD) (l : Lk)

theorem duties_bar : (Rd (F := F) X).duties (barCell c) 0 = Finset.univ := by
  dsimp only [Rd]; rw [if_pos ⟨rfl, rfl⟩, if_pos rfl]
theorem duties_snd : (Rd (F := F) X).duties (sndCell c l) 0 = {0} := by
  dsimp only [Rd]; rw [if_pos ⟨rfl, rfl⟩, dec_snd]; rfl
theorem duties_rcv : (Rd (F := F) X).duties (rcvCell c l) 0 = {0} := by
  dsimp only [Rd]; rw [if_pos ⟨rfl, rfl⟩, dec_rcv]; rfl
theorem duties_later (g : GSem nD τ sig) : ∀ r, 1 ≤ r → (Rd (F := F) X).duties g r = ∅ :=
  fun r hr => by dsimp only [Rd]; rw [if_neg fun h => by omega]
theorem amount_bar (d : Fin 3) : (Rd (F := F) X).amount (barCell c) 0 d = 1 := rfl
theorem amount_dma (s : DmaSem sig) (d : Fin 3) : (Rd (F := F) X).amount ((c : Thread nD τ), .dma s) 0 d = N := rfl
theorem expect_bar : (Rd (F := F) X).expect (barCell c) 0 = 3 := by
  unfold Schedule.expect Schedule.amountOf
  rw [duties_bar, Finset.sum_congr rfl fun d _ => amount_bar X c d, Finset.sum_const, Finset.card_univ, Fintype.card_fin, smul_eq_mul]
theorem expect_snd : (Rd (F := F) X).expect (sndCell c l) 0 = N := by
  unfold Schedule.expect Schedule.amountOf; rw [duties_snd, Finset.sum_singleton, amount_dma]
theorem expect_rcv : (Rd (F := F) X).expect (rcvCell c l) 0 = N := by
  unfold Schedule.expect Schedule.amountOf; rw [duties_rcv, Finset.sum_singleton, amount_dma]
theorem payload_bar (d : Fin 3) : (Rd (F := F) X).payload (barCell c) 0 d = barPay c d := rfl
theorem payload_snd (d : Fin 3) : (Rd (F := F) X).payload (sndCell c l) 0 d = sndPay X c l := by
  dsimp only [Rd]; rw [dec_snd]
theorem payload_rcv (d : Fin 3) : (Rd (F := F) X).payload (rcvCell c l) 0 d = rcvPay X c l := by
  dsimp only [Rd]; rw [dec_rcv]
theorem rest_bar : bigSep ((Rd (F := F) X).duties (barCell c) 0 \ ∅) (fun d => (Rd (F := F) X).payload (barCell c) 0 d)
    = iprop(barPay c 0 ∗ barPay c 1 ∗ barPay c 2) := by
  rw [Finset.sdiff_empty, duties_bar, bigSep_univ_eq_bigSepL [0, 1, 2] (by decide) (by decide)]
  simp only [bigSepL_cons_cons, bigSepL_singleton, payload_bar]
  rfl
theorem rest_snd : bigSep ((Rd (F := F) X).duties (sndCell c l) 0 \ ∅) (fun d => (Rd (F := F) X).payload (sndCell c l) 0 d) = sndPay X c l := by
  rw [Finset.sdiff_empty, duties_snd, bigSep_singleton, payload_snd]
theorem rest_rcv : bigSep ((Rd (F := F) X).duties (rcvCell c l) 0 \ ∅) (fun d => (Rd (F := F) X).payload (rcvCell c l) 0 d) = rcvPay X c l := by
  rw [Finset.sdiff_empty, duties_rcv, bigSep_singleton, payload_rcv]

end Sched

/-! ## What a device owes, and the order of waits -/

/-- The receive credit owed for the links still to be sent over, the next one last. -/
def oL (c : Dev nD) : List Lk → CellTallies nD τ sig Unit
  | [] => 0
  | l :: ls => oL c ls + tallyAt (rcvCell (peer c l) l) () N

/-- What a device owes at launch: every link's receive credit and a unit to each neighbour's barrier cell. -/
def O₁ (c : Dev nD) : CellTallies nD τ sig Unit := oL c order + tallyAt (barCell (qz c)) () 1
def O₂ (c : Dev nD) : CellTallies nD τ sig Unit := O₁ c + tallyAt (barCell (qy c)) () 1
def O₀ (c : Dev nD) : CellTallies nD τ sig Unit := O₂ c + tallyAt (barCell (px c)) () 1

/-- How late a link's arrival is waited for. -/
def lvl : Lk → ℕ
  | .x _ => 2 | .y _ => 3 | .z _ => 3 | .yg _ => 4 | .zg _ => 4

def L (g : GSem nD τ sig) : Finset Unit := if g.1.2 = .tc then {()} else ∅
/-- Staging and send cells at 0, barrier cells at 1, receive cells at their link's level. -/
def lv (g : GSem nD τ sig) (_ : Unit) : ℕ := match g.2 with
  | .reg _ => 1
  | .dma s => match dec s with
    | some (true, l) => lvl l
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_rcv (c : Dev nD) (l : Lk) : lv (rcvCell c l) () = lvl l := by dsimp only [lv]; rw [dec_rcv]
theorem lvl_ge (l : Lk) : 2 ≤ lvl l := by cases l <;> simp [lvl]

theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem oL_pos {c : Dev nD} {ls : List Lk} {g : GSem nD τ sig} {u : Unit} (h : 0 < oL c ls g u) : ∃ l ∈ ls, g = rcvCell (peer c l) l := by
  induction ls with
  | nil => exact absurd h (Nat.lt_irrefl 0)
  | cons l ls ih =>
    unfold oL at h
    rw [Pi.add_apply, Finsupp.add_apply] at h
    rcases Nat.eq_zero_or_pos (oL c ls g u) with h0 | h0
    · rw [h0, Nat.zero_add] at h
      exact ⟨l, List.mem_cons_self, tallyAt_pos h⟩
    · obtain ⟨l', hl', e⟩ := ih h0
      exact ⟨l', List.mem_cons_of_mem _ hl', e⟩

theorem O₀_pos {c : Dev nD} {g : GSem nD τ sig} {u : Unit} (h : 0 < O₀ c g u) :
    (∃ l ∈ order, g = rcvCell (peer c l) l) ∨ ∃ d, g = barCell d := by
  unfold O₀ O₂ O₁ at h
  simp only [Pi.add_apply, Finsupp.add_apply] at h
  by_contra hn
  rw [not_or] at hn
  have h1 : oL c order g u = 0 := Nat.eq_zero_of_not_pos fun h' => hn.1 (oL_pos h')
  have h2 (d : Dev nD) : (tallyAt (barCell d) () 1 : CellTallies nD τ sig Unit) g u = 0 :=
    Nat.eq_zero_of_not_pos fun h' => hn.2 ⟨d, tallyAt_pos h'⟩
  rw [h1, h2, h2, h2] at h
  exact Nat.lt_irrefl 0 h

omit [FloatOps F] in
/-- The staging copies' semaphores may be waited for while owing what a device owes at launch, or nothing. -/
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨l, -, rfl⟩ | ⟨d, rfl⟩ <;> exact Finset.mem_singleton_self _)
      (fun p hp => by rw [Finset.mem_singleton.mp hp]; dsimp only [lv]; rw [hq])
      (fun g u hg => by
        rcases O₀_pos hg with ⟨l, -, rfl⟩ | ⟨d, rfl⟩
        · have := lvl_ge l; cases u; rw [lv_rcv]; omega
        · cases u; rw [lv_bar]; decide)
  · rw [MayWait_zero]; iintro -; iempintro

omit [FloatOps F] in
/-- A cell of level `n` may be waited for while owing only links above `n`. -/
theorem mayWait_links (c : Dev nD) (sm : SemLoc sig) (n : ℕ) (hn : lv ((c : Thread nD τ), sm) () ≤ n) (ls : List Lk) (h : ∀ l ∈ ls, n < lvl l) :
    (levAts L lv : sProp 𝕄) ⊢ MayWait (c : Thread nD τ) sm () (oL c ls) :=
  MayOwe.of_cut (L := L) (lev := lv) n (fun p hp => by rw [Finset.mem_singleton.mp hp, L_tc]; exact Finset.mem_singleton_self _)
    (fun g u hg => by obtain ⟨l, -, rfl⟩ := oL_pos hg; exact Finset.mem_singleton_self _)
    (fun p hp => by rw [Finset.mem_singleton.mp hp]; exact hn)
    (fun g u hg => by obtain ⟨l, hl, rfl⟩ := oL_pos hg; cases u; rw [lv_rcv]; exact h l hl)

end Cert.KernelIdeal.Run

end
-- ==== Proof.Triples.lean ====
/- What each step of the body does. A device's environment between two steps is its staged argument block, its result
   buffer — right on the chunks folded so far — and what it still owes; each step takes its own resources besides and
   gives back what it made. -/
module

public import proofs.«01_k».proof.Proof.Sched
public import Idealize.ShloMosaic.Lib.MemrefSat
public import Idealize.ShloMosaic.Lib.Pipeline.Value
public import Idealize.ShloMosaic.Lib.ViewIndex

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : XS F)

/-! ## Rectangles and values of a fold -/

/-- Where a fold reads the device's own rows, -/
def xOff (c : Dev nD) : Lk → Fin 3 → Nat
  | .x k => k0_off2 c (BitVec.ofNat 32 (64 * k.val))
  | .y k => k0_off4 c (BitVec.ofNat 32 (64 * k.val))
  | .z k => k0_off6 c (BitVec.ofNat 32 (64 * k.val))
  | .yg k => k0_off8 c (BitVec.ofNat 32 (64 * (dn k).val))
  | .zg k => k0_off8 c (BitVec.ofNat 32 (64 * (up k).val))
/-- and where it stores in the result. -/
def oOff (c : Dev nD) : Lk → Fin 2 → Nat
  | .x k => k0_off3 c (BitVec.ofNat 32 (64 * k.val))
  | .y k => k0_off5 c (BitVec.ofNat 32 (64 * k.val))
  | .z k => k0_off7 c (BitVec.ofNat 32 (64 * k.val))
  | .yg k => k0_off9 c (BitVec.ofNat 32 (64 * (dn k).val))
  | .zg k => k0_off9 c (BitVec.ofNat 32 (64 * (up k).val))
theorem xOff_inb (c : Dev nD) : ∀ l a, xOff c l a + S1x64x512.size a ≤ S1x2048x1024.size a
  | .x k => k0_off2_inb c k
  | .y k => k0_off4_inb c k
  | .z k => k0_off6_inb c k
  | .yg k => k0_off8_inb c (dn k)
  | .zg k => k0_off8_inb c (up k)
theorem oOff_inb (c : Dev nD) : ∀ l a, oOff c l a + S64x512.size a ≤ S2048x512.size a
  | .x k => k0_off3_inb c k
  | .y k => k0_off5_inb c k
  | .z k => k0_off7_inb c k
  | .yg k => k0_off9_inb c (dn k)
  | .zg k => k0_off9_inb c (up k)

/-- Rows and columns of the argument block a fold adds to. -/
abbrev fR (c : Dev nD) (l : Lk) : Rect S1x2048x1024 := Rect.unit (s := S1x2048x1024) (xOff c l) S1x64x512.size (xOff_inb c l)
/-- Rows of the result a fold stores. -/
abbrev oR (c : Dev nD) (l : Lk) : Rect S2048x512 := Rect.unit (s := S2048x512) (oOff c l) S64x512.size (oOff_inb c l)

/-- Two chunks added: widened, added, narrowed. -/
def fold2 (a b : Vec F S64x512 .bf16) : Vec F S64x512 .bf16 :=
  truncf .bf16 (addf (extf .f32 a bitsLt_bf16_f32) (extf .f32 b bitsLt_bf16_f32)) bitsLt_bf16_f32

theorem pay10_eq (a b : Vec F S1x64x512 .bf16) :
    k0_pay10 a b = fold2 (shapeCast S64x512 a shapeCasts_S1x64x512_S64x512) (shapeCast S64x512 b shapeCasts_S1x64x512_S64x512) := rfl

/-- The device's own rows of a fold. -/
def mine (c : Dev nD) (l : Lk) : Vec F S64x512 .bf16 :=
  shapeCast S64x512 ((xM.access (fR c l)).read (Elt F) (X c)) shapeCasts_S1x64x512_S64x512
/-- What a fold stores. -/
def fv (c : Dev nD) (l : Lk) : Vec F S64x512 .bf16 := fold2 (mine X c l) (val X (peer c l) l)

/-! ## Slots -/

omit [FloatOps F] in
theorem slot_read {n : ℕ} (M : Memref sig .tc .vmem (SH n) .bf16) (k : Fin n) (f : M.view.ty.Contents (Elt F)) :
    (slot M k).view.read (Elt F) f = shapeCast S64x512 ((M.access (slotR k)).read (Elt F) f) shapeCasts_S1x64x512_S64x512 := rfl
omit [FloatOps F] in
theorem slot_set {n : ℕ} (M : Memref sig .tc .vmem (SH n) .bf16) (k : Fin n) : (slot M k).view.set = (M.access (slotR k)).set :=
  View.set_reshape ..

/-! ## Where the folds store -/

/-- Which 64 rows of the result a fold stores. -/
def blk (c : Dev nD) (l : Lk) : ℕ := oOff c l 0 / 64

theorem oOff_row (c : Dev nD) (l : Lk) : oOff c l 0 = 64 * blk c l := by
  revert l c; decide +kernel
theorem oOff_col (c : Dev nD) (l : Lk) : oOff c l 1 = 0 := by
  revert l c; decide +kernel
theorem blk_inj (c : Dev nD) (l l' : Lk) (h : blk c l = blk c l') : l = l' := by
  revert l l' c; decide +kernel
/-- Every 64 rows are some fold's. -/
theorem blk_surj (c : Dev nD) (b : Fin 32) : ∃ l, blk c l = b.val := by
  revert b c; decide +kernel

theorem oR_disjoint (c : Dev nD) {l l' : Lk} (h : l ≠ l') : Disjoint (oR c l).set (oR c l').set := by
  rw [Finset.disjoint_left]
  intro i hi hi'
  have h1 := (Rect.mem_set_unit.mp hi) 0
  have h2 := (Rect.mem_set_unit.mp hi') 0
  rw [oOff_row] at h1 h2
  have hs : S64x512.size 0 = 64 := rfl
  rw [hs] at h1 h2
  exact h (blk_inj c l l' (by omega))

/-! ## The environment -/

abbrev WP (c : Dev nD) (p : PP F PUnit) (Q : PUnit → sProp 𝕄) : sProp 𝕄 :=
  wp frame (wpE (defs₀ (F := F)) 𝒱₀ (c : Thread nD τ) none) Set.univ p Q

/-- The staged argument block. -/
def xPts (c : Dev nD) : sProp 𝕄 := ((c : Thread nD τ).loc cc0_stg0_0) ↦{fullShare} X c
/-- The result buffer at contents `f`. -/
def oPts (c : Dev nD) (f : (cc0_stg1_0 : Ref sig .tc).ty.Contents (Elt F)) : sProp 𝕄 := ((c : Thread nD τ).loc cc0_stg1_0) ↦{fullShare} f
/-- The result buffer, right on every fold but those of `rem`. -/
def oSt (c : Dev nD) (rem : List Lk) : sProp 𝕄 :=
  iprop(∃ f, ⌜∀ l, l ∉ rem → (oM.access (oR c l)).read (Elt F) f = fv X c l⌝ ∗ oPts c f)
/-- What a device holds between two steps: links `ls` still owed, folds `rem` still to be done. -/
def Env (c : Dev nD) (ls rem : List Lk) : sProp 𝕄 :=
  iprop(xPts X c ∗ oSt X c rem ∗ ∃ W, owes (c : Thread nD τ) (oL c ls) W)

/-- The cells of all devices. -/
abbrev Cl : Type := Dev nD × Option (Bool × Lk)
def kcell : Cl → GSem nD τ sig
  | (c, none) => barCell c
  | (c, some (false, l)) => sndCell c l
  | (c, some (true, l)) => rcvCell c l

/-- Every cell's invariant, and that it has reached its round. -/
def records (K : Cl → ℕ) : sProp 𝕄 :=
  iprop((bigSep Finset.univ fun p : Cl => cellInv ER (Rd X) (K p) (kcell p)) ∗ bigSep Finset.univ fun p : Cl => reached ER (kcell p) 0)
instance records_persistent (K : Cl → ℕ) : BI.Persistent (records X K) := by unfold records; infer_instance
theorem inv_at (K : Cl → ℕ) (p : Cl) : records X K ⊢ cellInv ER (Rd X) (K p) (kcell p) := by
  have h : (bigSep Finset.univ fun p : Cl => cellInv ER (Rd X) (K p) (kcell p) : sProp 𝕄) ⊢ cellInv ER (Rd X) (K p) (kcell p) := bigSep_elim (Finset.mem_univ p)
  unfold records; iintro ⟨H, -⟩; iapply h; iexact H
theorem reached_at (K : Cl → ℕ) (p : Cl) : records X K ⊢ reached ER (kcell p) 0 := by
  have h : (bigSep Finset.univ fun p : Cl => (reached ER (kcell p) 0 : sProp 𝕄)) ⊢ reached ER (kcell p) 0 := bigSep_elim (Finset.mem_univ p)
  unfold records; iintro ⟨-, H⟩; iapply h; iexact H

variable (K : Cl → ℕ)

/-! ## The steps -/

/-- What a send takes besides its slot: the two duties' tokens and the landing slot on the other device. -/
def sendRes (c : Dev nD) (l : Lk) : sProp 𝕄 :=
  iprop(dutyTok ER (sndCell c l) 0 0 ∗ dutyTok ER (rcvCell (peer c l) l) 0 0 ∗ land (F := F) (peer c l) l)

theorem send_step (c : Dev nD) (l : Lk) (ls rem : List Lk) :
    iprop(records X K ∗ sendRes c l ∗ sndPay X c l ∗ Env X c (l :: ls) rem)
      ⊢ WP c (sendP c l) (fun _ => iprop(cred (tallyAt (sndCell c l) () N) ∗ Env X c ls rem)) := by
  unfold sendP sendRes sndPay land Env owns
  iintro ⟨#HR, ⟨Ht1, Ht2, ⟨%Y, %fd, -, Hd⟩⟩, ⟨%fs, %hfs, Hs⟩, Hx, Ho, ⟨%W, HO⟩⟩
  simp only [Prog.lift]
  iapply (Rounds.wp_send_pointsTo 𝒱₀ ER (Rd X) (c : Thread nD τ) none (c' := (peer c l : Thread nD τ)) (src := l.src) (dst := l.dst) (sS := .dma l.snd) (sem := .dma l.rcv) (κ₁ := K (c, some (false, l))) (κ₂ := K (peer c l, some (true, l)))
    (r₁ := 0) (r₂ := 0) (d₁ := 0) (d₂ := 0) (fs := fs) (fd := fd) (q := l.q)
    (by rw [duties_snd]; exact Finset.mem_singleton_self _) (by rw [duties_rcv]; exact Finset.mem_singleton_self _)
    () () N (dst_credit l) (amount_dma X c l.snd 0) (amount_dma X (peer c l) l.rcv 0) (oL c ls) rfl (W := W)
    (by rw [payload_snd]; unfold sndPay; rw [← hfs]; exact owns_intro (c : Thread nD τ) l.src l.q fs)
    (by
      rw [payload_rcv]; unfold rcvPay; rw [peer_peer, ← hfs]
      refine (owns_intro (peer c l : Thread nD τ) l.dst fullShare _).trans (Entails.of_eq ?_)
      rw [View.read_write_univ])) $$ [Hs Hd HO Ht1 Ht2]
  · isplitr; · iapply (inv_at X K (c, some (false, l))); iexact HR
    isplitr; · iapply (inv_at X K (peer c l, some (true, l))); iexact HR
    isplitl [Hs]; · iexact Hs
    isplitl [Hd]; · iexact Hd
    isplitl [HO]; · iexact HO
    isplitl [Ht1]; · iexact Ht1
    isplitr; · iapply (reached_at X K (c, some (false, l))); iexact HR
    isplitl [Ht2]; · iexact Ht2
    iapply (reached_at X K (peer c l, some (true, l))); iexact HR
  iintro ⟨Hc, HO⟩
  rw [wp_ret]; imodintro
  isplitl [Hc]; · iexact Hc
  isplitl [Hx]; · iexact Hx
  isplitl [Ho]; · iexact Ho
  iexists W; iexact HO

/-- A DMA cell at its start, with the count to take off it. -/
def armed (g : GSem nD τ sig) : sProp 𝕄 := iprop(atPos ER g 0 ∅ 0 ∗ cred (tallyAt g () N))

/-- Waiting for a link's arrival, while owing only links waited for later: the landing slot with what was sent. -/
theorem wait_step (c : Dev nD) (l : Lk) (ls rem : List Lk) (h : ∀ l' ∈ ls, lvl l < lvl l') :
    iprop(records X K ∗ levAts L lv ∗ armed (rcvCell c l) ∗ Env X c ls rem)
      ⊢ WP c (waitP l) (fun _ => iprop((semVal (rcvCell c l) 0 ∗ rcvPay X c l) ∗ Env X c ls rem)) := by
  unfold waitP Env armed
  iintro ⟨#HR, #Hlev, ⟨Hat, Hcr⟩, Hx, Ho, ⟨%W, HO⟩⟩
  simp only [Prog.lift]
  ihave #HI := (inv_at X K (c, some (true, l))) $$ HR
  iapply (Rounds.wp_wait_rest_token 𝒱₀ ER (Rd X) (c : Thread nD τ) none (κ := K (c, some (true, l)))
      (wpE_waitDma2_eq 𝒱₀ (c : Thread nD τ) none Set.univ) (Set.mem_univ _) () (O := oL c ls) (W := W) (R := 0) (m := 0) (T := ∅)
      (by rw [Nat.zero_add, expect_rcv]; exact dst_credit l)) $$ [Hcr HO Hat]
  · isplitr; · iexact HI
    isplitl [Hcr]; · rw [show l.dst.view.dmaCredit = N from dst_credit l]; iexact Hcr
    isplitl [HO]; · iexact HO
    isplitr; · iapply (mayWait_links c (.dma l.rcv) (lvl l) (le_of_eq (lv_rcv c l)) ls h); iexact Hlev
    iexact Hat
  iintro ⟨HO, Hat, -, Hpay⟩
  ihave Hp := (Entails.of_eq (rest_rcv X c l)) $$ Hpay
  imod (Rounds.cell_close ER (Rd X) (Set.mem_univ (K (c, some (true, l)))) (fun h => h) (R := 0 + 1) (duties_later X (rcvCell c l))) $$ [Hat] with Hz
  · isplitr; · iexact HI
    iexact Hat
  rw [wp_ret]; imodintro
  isplitl [Hz Hp]
  · isplitl [Hz]; · iexact Hz
    iexact Hp
  isplitl [Hx]; · iexact Hx
  isplitl [Ho]; · iexact Ho
  iexists _; iexact HO

/-- Waiting until a link's copy has left: its slot back. -/
theorem left_step (c : Dev nD) (l : Lk) (rem : List Lk) :
    iprop(records X K ∗ armed (sndCell c l) ∗ Env X c [] rem)
      ⊢ WP c (leftP l) (fun _ => iprop((semVal (sndCell c l) 0 ∗ sndPay X c l) ∗ Env X c [] rem)) := by
  unfold leftP Env armed
  iintro ⟨#HR, ⟨Hat, Hcr⟩, Hx, Ho, ⟨%W, HO⟩⟩
  simp only [Prog.lift]
  ihave #HI := (inv_at X K (c, some (false, l))) $$ HR
  iapply (Rounds.wp_wait_rest_token 𝒱₀ ER (Rd X) (c : Thread nD τ) none (κ := K (c, some (false, l)))
      (wpE_waitDma2_eq 𝒱₀ (c : Thread nD τ) none Set.univ) (Set.mem_univ _) () (O := oL c []) (W := W) (R := 0) (m := 0) (T := ∅)
      (by rw [Nat.zero_add, expect_snd]; exact src_credit l)) $$ [Hcr HO Hat]
  · isplitr; · iexact HI
    isplitl [Hcr]; · rw [show l.src.view.dmaCredit = N from src_credit l]; iexact Hcr
    isplitl [HO]; · iexact HO
    isplitr; · rw [show oL c [] = 0 from rfl, MayWait_zero]; iempintro
    iexact Hat
  iintro ⟨HO, Hat, -, Hpay⟩
  ihave Hp := (Entails.of_eq (rest_snd X c l)) $$ Hpay
  imod (Rounds.cell_close ER (Rd X) (Set.mem_univ (K (c, some (false, l)))) (fun h => h) (R := 0 + 1) (duties_later X (sndCell c l))) $$ [Hat] with Hz
  · isplitr; · iexact HI
    iexact Hat
  rw [wp_ret]; imodintro
  isplitl [Hz Hp]
  · isplitl [Hz]; · iexact Hz
    iexact Hp
  isplitl [Hx]; · iexact Hx
  isplitl [Ho]; · iexact Ho
  iexists _; iexact HO

/-- Staging a chunk: its slot at the chunk. -/
theorem stage_step (c : Dev nD) (k : Fin 8) (ls rem : List Lk) :
    iprop((∃ Y : Vec F S64x512 .bf16, owns (c : Thread nD τ) (slot stM k) fullShare Y) ∗ Env X c ls rem)
      ⊢ WP c (stageP c k) (fun _ => iprop(owns (c : Thread nD τ) (slot stM k) fullShare (sv X c k) ∗ Env X c ls rem)) := by
  unfold stageP loadX loadS Env xPts owns
  iintro ⟨⟨%Y, %f, -, Hs⟩, Hx, Ho, HO⟩
  simp only [Prog.lift, Prog.bind_op, Prog.bind_ret, bind, Prog.bind, Prog.pure_eq_ret]
  iapply (wp_load_rect 𝒱₀ (c : Thread nD τ) none Set.univ (m := xM) (r := xR c k) (Finset.subset_univ _)) $$ Hx; iintro Hx
  iapply (wp_load_rect 𝒱₀ (c : Thread nD τ) none Set.univ (m := stM) (r := slotR k) (le_of_eq (slot_set stM k).symm)) $$ Hs; iintro Hs
  iapply (wp_store 𝒱₀ (c : Thread nD τ) none Set.univ (m := stM) (r := slotR k) (Mk := Finset.univ) (le_of_eq (slot_set stM k).symm)) $$ Hs; iintro Hs
  rw [wp_ret]; imodintro
  isplitl [Hs]
  · iexists _; isplitr
    swap; · iexact Hs
    ipureintro
    refine (slot_read stM k _).trans ?_
    rw [View.read_write_univ]
    unfold k0_pay1 sv
    simp only [shapeCast_shapeCast]
  isplitl [Hx]; · iexact Hx
  isplitl [Ho] <;> iassumption

omit X in
theorem fold_run {n : ℕ} (M : Memref sig .tc .vmem (SH n) .bf16) (k : Fin n) (c : Dev nD) (q : PosShare TreeShare) (Y : Vec F S64x512 .bf16)
    (x : (cc0_stg0_0 : Ref sig .tc).ty.Contents (Elt F)) (f : (cc0_stg1_0 : Ref sig .tc).ty.Contents (Elt F))
    (ox : Fin 3 → Nat) (hx : ∀ a, ox a + S1x64x512.size a ≤ S1x2048x1024.size a) (oo : Fin 2 → Nat)
    (ho : ∀ a, oo a + S64x512.size a ≤ S2048x512.size a)
    (hp : (Rect.unit (s := S2048x512) oo S64x512.size ho).PackedRows (EltTy.packing .bf16)) :
    iprop(owns (c : Thread nD τ) (slot M k) q Y ∗ (((c : Thread nD τ).loc cc0_stg0_0) ↦{fullShare} x) ∗ oPts c f)
      ⊢ WP c (foldP (loadS M k) ox hx oo ho hp) (fun _ => iprop(owns (c : Thread nD τ) (slot M k) q Y
          ∗ (((c : Thread nD τ).loc cc0_stg0_0) ↦{fullShare} x)
          ∗ oPts c ((oM.access (Rect.unit (s := S2048x512) oo S64x512.size ho)).write (Elt F) f
              (fold2 (shapeCast S64x512 ((xM.access (Rect.unit (s := S1x2048x1024) ox S1x64x512.size hx)).read (Elt F) x) shapeCasts_S1x64x512_S64x512) Y) Finset.univ))) := by
  unfold foldP loadX loadS loadO storeO oPts owns
  iintro ⟨⟨%g, %hg, Hs⟩, Hx, Ho⟩
  simp only [Prog.lift, Prog.bind_op, Prog.bind_ret, bind, Prog.bind, Prog.pure_eq_ret]
  iapply (wp_load_rect 𝒱₀ (c : Thread nD τ) none Set.univ (m := xM) (r := Rect.unit (s := S1x2048x1024) ox S1x64x512.size hx) (Finset.subset_univ _)) $$ Hx; iintro Hx
  iapply (wp_load_rect 𝒱₀ (c : Thread nD τ) none Set.univ (m := M) (r := slotR k) (by rw [slot_set])) $$ Hs; iintro Hs
  iapply (wp_load_rect 𝒱₀ (c : Thread nD τ) none Set.univ (m := oM) (r := Rect.unit (s := S2048x512) oo S64x512.size ho) (Finset.subset_univ _)) $$ Ho; iintro Ho
  iapply (wp_store 𝒱₀ (c : Thread nD τ) none Set.univ (m := oM) (r := Rect.unit (s := S2048x512) oo S64x512.size ho) (Mk := Finset.univ) (Finset.subset_univ _)) $$ Ho; iintro Ho
  rw [wp_ret]; imodintro
  isplitl [Hs]
  · iexists g; isplitr; · ipureintro; exact hg
    iexact Hs
  isplitl [Hx]; · iexact Hx
  rw [pay10_eq, ← slot_read, hg]; iexact Ho

/-- Folding what a link brought: one fold less to do. -/
theorem fold_step (c : Dev nD) (l : Lk) (q : PosShare TreeShare) (ls rem : List Lk) :
    iprop(owns (c : Thread nD τ) l.dst q (val X (peer c l) l) ∗ Env X c ls (l :: rem))
      ⊢ WP c (foldL c l) (fun _ => iprop(owns (c : Thread nD τ) l.dst q (val X (peer c l) l) ∗ Env X c ls rem)) := by
  have key (f : (cc0_stg1_0 : Ref sig .tc).ty.Contents (Elt F)) :
      iprop(owns (c : Thread nD τ) l.dst q (val X (peer c l) l) ∗ xPts X c ∗ oPts c f)
        ⊢ WP c (foldL c l) (fun _ => iprop(owns (c : Thread nD τ) l.dst q (val X (peer c l) l) ∗ xPts X c
          ∗ oPts c ((oM.access (oR c l)).write (Elt F) f (fv X c l) Finset.univ))) := by
    unfold xPts
    cases l <;> exact fold_run _ _ c q _ (X c) f _ _ _ _ _
  unfold Env oSt
  iintro ⟨Hs, Hx, ⟨%f, %hf, Ho⟩, HO⟩
  iapply (wp_wand frame (wpE (defs₀ (F := F)) 𝒱₀ (c : Thread nD τ) none) Set.univ) $$ [Hs Hx Ho]
  · iapply (key f)
    isplitl [Hs]; · iexact Hs
    isplitl [Hx] <;> iassumption
  iintro %u ⟨Hs, Hx, Ho⟩
  isplitl [Hs]; · iexact Hs
  isplitl [Hx]; · iexact Hx
  isplitl [Ho]
  · iexists _; isplitr
    swap; · iexact Ho
    ipureintro
    intro l' hl'
    by_cases e : l' = l
    · subst e; exact View.read_write_univ ..
    · rw [show (oM.access (oR c l')).read (Elt F) ((oM.access (oR c l)).write (Elt F) f (fv X c l) Finset.univ) = (oM.access (oR c l')).read (Elt F) f from
        View.read_slice_write_slice_of_disjoint _ _ _ _ _ (View.disjoint_slice (oR_disjoint c e))]
      exact hf l' (fun h => by rcases List.mem_cons.mp h with h | h <;> contradiction)
  iexact HO

/-! ## Running steps one after another -/

omit X in
/-- A step, then the rest. -/
theorem run_then (c : Dev nD) {p : PP F PUnit} {k : PUnit → PP F PUnit} {P Post : sProp 𝕄} {Q : PUnit → sProp 𝕄} (h : P ⊢ WP c p (fun _ => Post)) :
    P ⊢ iprop((Post -∗ WP c (k ⟨⟩) Q) -∗ WP c (p >>= k) Q) := by
  iintro HP Hk
  unfold WP
  rw [wp_bind]
  iapply (wp_wand frame (wpE (defs₀ (F := F)) 𝒱₀ (c : Thread nD τ) none) Set.univ) $$ [HP]
  · iapply h; iexact HP
  iintro %u Hp
  iapply Hk; iexact Hp
omit X in
/-- The last step. -/
theorem run_last (c : Dev nD) {p : PP F PUnit} {P Post : sProp 𝕄} {Q : PUnit → sProp 𝕄} (h : P ⊢ WP c p (fun _ => Post)) :
    P ⊢ iprop((Post -∗ Q ⟨⟩) -∗ WP c p Q) := by
  iintro HP Hk
  iapply (wp_wand frame (wpE (defs₀ (F := F)) 𝒱₀ (c : Thread nD τ) none) Set.univ) $$ [HP]
  · iapply h; iexact HP
  iintro %u Hp
  iapply Hk; iexact Hp

omit X in
/-- A step at each element of a list, each taking `pre` of its element and giving `post` of it, the rest `R` going from what
    is right before the element to what is right after. -/
theorem run_list (c : Dev nD) {α : Type} (f : α → PP F PUnit) (pre post : α → sProp 𝕄) (R : List α → sProp 𝕄)
    (h : ∀ a l, iprop(pre a ∗ R (a :: l)) ⊢ WP c (f a) (fun _ => iprop(post a ∗ R l))) (l : List α) :
    iprop(bigSepL l pre ∗ R l) ⊢ WP c (forP f l) (fun _ => iprop(bigSepL l post ∗ R [])) := by
  induction l with
  | nil =>
    unfold forP
    rw [bigSepL_nil, bigSepL_nil]
    iintro H
    simp only [WP, Prog.pure_eq_ret, wp_ret]
    imodintro; iexact H
  | cons a l ih =>
    unfold forP
    rw [bigSepL_cons', bigSepL_cons']
    iintro ⟨⟨Ha, Hl⟩, HR⟩
    iapply (run_then c (h a l)) $$ [Ha HR]
    · isplitl [Ha] <;> iassumption
    iintro ⟨Hp, HR⟩
    iapply (run_last c ih) $$ [Hl HR]
    · isplitl [Hl] <;> iassumption
    iintro ⟨Hl, HR⟩
    isplitl [Hp Hl]
    · isplitl [Hp] <;> iassumption
    iexact HR

end Cert.KernelIdeal.Run

end
-- ==== Proof.Body.lean ====
/- One device's body from end to end: the barrier, the phases one after another, each over its list of chunks, and the
   resources they leave. Everything is stated over the families of links (`fam`). -/
module

public import proofs.«01_k».proof.Proof.Triples

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

section Fam
omit [FloatOps F]

/-- One resource per element, two of them: one resource per element and another. -/
theorem bigSepL_sep {I : Type} (l : List I) (Φ Ψ : I → sProp 𝕄) :
    bigSepL l (fun i => iprop(Φ i ∗ Ψ i)) = iprop(bigSepL l Φ ∗ bigSepL l Ψ) := by
  induction l with
  | nil => exact (BI.equiv_iff.mp BI.sep_emp).symm
  | cons a l ih =>
    rw [bigSepL_cons', bigSepL_cons', bigSepL_cons', ih]
    have h₁ : iprop((Φ a ∗ Ψ a) ∗ bigSepL l Φ ∗ bigSepL l Ψ) ⊢ iprop((Φ a ∗ bigSepL l Φ) ∗ Ψ a ∗ bigSepL l Ψ) := by
      iintro ⟨⟨H1, H2⟩, H3, H4⟩
      isplitl [H1 H3]
      · isplitl [H1] <;> iassumption
      · isplitl [H2] <;> iassumption
    have h₂ : iprop((Φ a ∗ bigSepL l Φ) ∗ Ψ a ∗ bigSepL l Ψ) ⊢ iprop((Φ a ∗ Ψ a) ∗ bigSepL l Φ ∗ bigSepL l Ψ) := by
      iintro ⟨⟨H1, H2⟩, H3, H4⟩
      isplitl [H1 H3]
      · isplitl [H1] <;> iassumption
      · isplitl [H2] <;> iassumption
    exact BI.equiv_iff.mp ⟨h₁, h₂⟩

/-- A resource for each link of each family. -/
def fam (Φ : Lk → sProp 𝕄) : sProp 𝕄 :=
  iprop(bigSepL all8 (fun k => Φ (.x k)) ∗ bigSepL all8 (fun k => Φ (.y k)) ∗ bigSepL all8 (fun k => Φ (.z k))
    ∗ bigSepL all4 (fun k => Φ (.yg k)) ∗ bigSepL all4 (fun k => Φ (.zg k)))

theorem lefts_fam (Φ : Lk → sProp 𝕄) : bigSepL lefts Φ = fam Φ := by
  unfold fam
  rw [bigSepL_append, bigSepL_append, bigSepL_append, bigSepL_append, bigSepL_map, bigSepL_map, bigSepL_map, bigSepL_map, bigSepL_map]
  generalize bigSepL all8 (fun k => Φ (.x k)) = A
  generalize bigSepL all8 (fun k => Φ (.y k)) = B
  generalize bigSepL all8 (fun k => Φ (.z k)) = C
  generalize bigSepL all4 (fun k => Φ (.yg k)) = D
  generalize bigSepL all4 (fun k => Φ (.zg k)) = E
  have h₁ : iprop((((A ∗ B) ∗ C) ∗ D) ∗ E) ⊢ iprop(A ∗ B ∗ C ∗ D ∗ E) := by
    iintro ⟨⟨⟨⟨H1, H2⟩, H3⟩, H4⟩, H5⟩
    isplitl [H1]; · iexact H1
    isplitl [H2]; · iexact H2
    isplitl [H3]; · iexact H3
    isplitl [H4] <;> iassumption
  have h₂ : iprop(A ∗ B ∗ C ∗ D ∗ E) ⊢ iprop((((A ∗ B) ∗ C) ∗ D) ∗ E) := by
    iintro ⟨H1, H2, H3, H4, H5⟩
    isplitr [H5]; swap; · iexact H5
    isplitr [H4]; swap; · iexact H4
    isplitr [H3]; swap; · iexact H3
    isplitl [H1] <;> iassumption
  exact BI.equiv_iff.mp ⟨h₁, h₂⟩
/-- A resource for every link, family by family. -/
theorem univ_fam (Φ : Lk → sProp 𝕄) : bigSep Finset.univ Φ = fam Φ := by
  rw [bigSep_univ_eq_bigSepL lefts univ_lefts lefts_nodup, lefts_fam]
theorem fam_sep (Φ Ψ : Lk → sProp 𝕄) : fam (fun l => iprop(Φ l ∗ Ψ l)) = iprop(fam Φ ∗ fam Ψ) := by
  rw [← univ_fam, ← univ_fam, ← univ_fam, bigSep_sep']
/-- Eight chunks are the lower four and the upper four. -/
theorem all8_split (Φ : Fin 8 → sProp 𝕄) :
    bigSepL all8 Φ = iprop(bigSepL all4 (fun k => Φ (dn k)) ∗ bigSepL all4 (fun k => Φ (up k))) := by
  rw [show all8 = all4.map dn ++ all4.map up from rfl, bigSepL_append, bigSepL_map, bigSepL_map]

end Fam

variable (X : XS F) (K : Cl → ℕ)

/-! ## Orders -/

def relays : List Lk := all4.map Lk.zg ++ all4.map Lk.yg
def fo6 : List Lk := all4.map Lk.zg
def fo5 : List Lk := all4.map Lk.yg ++ fo6
def fo4 : List Lk := all4.map (fun k => .z (up k)) ++ fo5
def fo3 : List Lk := all4.map (fun k => .z (dn k)) ++ fo4
def fo2 : List Lk := all4.map (fun k => .y (up k)) ++ fo3
def fo1 : List Lk := all4.map (fun k => .y (dn k)) ++ fo2
/-- The links as the body folds what they brought. -/
def fo0 : List Lk := all8.map Lk.x ++ fo1

/-! ## Steps over the whole state -/

/-- A device's state between two steps: every cell's record, the levels and its environment. -/
def St (c : Dev nD) (ls rem : List Lk) : sProp 𝕄 := iprop(records X K ∗ levAts L lv ∗ Env X c ls rem)

/-- The share of its landing slot a fold reads under. -/
def Lk.f : Lk → PosShare TreeShare
  | .x _ => fullShare.right.right
  | .y k => if k.val < 4 then fullShare else fullShare.right
  | .z k => if k.val < 4 then fullShare.right else fullShare
  | .yg _ => fullShare
  | .zg _ => fullShare
/-- What stays of a landing slot once it is folded. -/
def held (c : Dev nD) (l : Lk) : sProp 𝕄 := owns (c : Thread nD τ) l.dst l.f (val X (peer c l) l)

theorem f_ydn (k : Fin 4) : (Lk.y (dn k)).f = fullShare := if_pos k.isLt
theorem f_yup (k : Fin 4) : (Lk.y (up k)).f = fullShare.right := if_neg (t := fullShare) (show ¬ ((up k).val < 4) from Nat.not_lt.mpr (Nat.le_add_left 4 k.val))
theorem f_zdn (k : Fin 4) : (Lk.z (dn k)).f = fullShare.right := if_pos k.isLt
theorem f_zup (k : Fin 4) : (Lk.z (up k)).f = fullShare := if_neg (t := fullShare.right) (show ¬ ((up k).val < 4) from Nat.not_lt.mpr (Nat.le_add_left 4 k.val))

abbrev crS (c : Dev nD) (l : Lk) : sProp 𝕄 := cred (tallyAt (sndCell c l) () N)
abbrev zS (c : Dev nD) (l : Lk) : sProp 𝕄 := semVal (sndCell c l) 0
abbrev zR (c : Dev nD) (l : Lk) : sProp 𝕄 := semVal (rcvCell c l) 0
/-- A staging slot at any contents. -/
def stAny (c : Dev nD) (k : Fin 8) : sProp 𝕄 := iprop(∃ Y : Vec F S64x512 .bf16, owns (c : Thread nD τ) (slot stM k) fullShare Y)

theorem xStep_run (c : Dev nD) (k : Fin 8) (ls rem : List Lk) :
    iprop((stAny c k ∗ sendRes c (.x k)) ∗ St X K c (.x k :: ls) rem)
      ⊢ WP c (xStep c k) (fun _ => iprop(crS c (.x k) ∗ St X K c ls rem)) := by
  unfold xStep St stAny
  iintro ⟨⟨Hst, Hs⟩, #HR, #HL, HE⟩
  iapply (run_then c (stage_step X c k (.x k :: ls) rem)) $$ [Hst HE]
  · isplitl [Hst] <;> iassumption
  iintro ⟨Hst, HE⟩
  iapply (run_last c (send_step X K c (.x k) ls rem)) $$ [Hst Hs HE]
  · isplitr; · iexact HR
    isplitl [Hs]; · iexact Hs
    isplitl [Hst]; · unfold sndPay; iexact Hst
    iexact HE
  iintro ⟨Hc, HE⟩
  isplitl [Hc]; · iexact Hc
  isplitr; · iexact HR
  isplitr; · iexact HL
  iexact HE

theorem rStep_run (c : Dev nD) (k : Fin 8) (ls rem : List Lk) (h : ∀ l' ∈ ls, 2 < lvl l') :
    iprop((armed (rcvCell c (.x k)) ∗ sendRes c (.y k) ∗ sendRes c (.z k)) ∗ St X K c (.y k :: .z k :: ls) (.x k :: rem))
      ⊢ WP c (rStep c k) (fun _ => iprop((zR c (.x k) ∗ crS c (.y k) ∗ crS c (.z k) ∗ held X c (.x k)) ∗ St X K c ls rem)) := by
  unfold rStep St
  iintro ⟨⟨Ha, Hs1, Hs2⟩, #HR, #HL, HE⟩
  iapply (run_then c (wait_step X K c (.x k) (.y k :: .z k :: ls) (.x k :: rem) (fun l' hl' => by
      rcases List.mem_cons.mp hl' with rfl | hl'
      · exact Nat.lt_succ_self 2
      rcases List.mem_cons.mp hl' with rfl | hl'
      · exact Nat.lt_succ_self 2
      exact h l' hl'))) $$ [Ha HE]
  · isplitr; · iexact HR
    isplitr; · iexact HL
    isplitl [Ha] <;> iassumption
  iintro ⟨⟨Hz, Hp⟩, HE⟩
  unfold rcvPay
  ihave Hp := (owns_halves (c : Thread nD τ) (Lk.x k).dst fullShare _).1 $$ Hp
  icases Hp with ⟨Hp1, Hp⟩
  ihave Hp := (owns_halves (c : Thread nD τ) (Lk.x k).dst fullShare.right _).1 $$ Hp
  icases Hp with ⟨Hp2, Hp3⟩
  iapply (run_then c (send_step X K c (.y k) (.z k :: ls) (.x k :: rem))) $$ [Hp1 Hs1 HE]
  · isplitr; · iexact HR
    isplitl [Hs1]; · iexact Hs1
    isplitl [Hp1]; · unfold sndPay; iexact Hp1
    iexact HE
  iintro ⟨Hc1, HE⟩
  iapply (run_then c (send_step X K c (.z k) ls (.x k :: rem))) $$ [Hp2 Hs2 HE]
  · isplitr; · iexact HR
    isplitl [Hs2]; · iexact Hs2
    isplitl [Hp2]; · unfold sndPay; iexact Hp2
    iexact HE
  iintro ⟨Hc2, HE⟩
  iapply (run_last c (fold_step X c (.x k) fullShare.right.right ls rem)) $$ [Hp3 HE]
  · isplitl [Hp3] <;> iassumption
  iintro ⟨Hp3, HE⟩
  isplitr [HE]
  · isplitl [Hz]; · iexact Hz
    isplitl [Hc1]; · iexact Hc1
    isplitl [Hc2]; · iexact Hc2
    unfold held; iexact Hp3
  isplitr; · iexact HR
  isplitr; · iexact HL
  iexact HE

theorem foldStep_run (c : Dev nD) (l : Lk) (hf : l.f = fullShare) (ls rem : List Lk) (h : ∀ l' ∈ ls, lvl l < lvl l') :
    iprop(armed (rcvCell c l) ∗ St X K c ls (l :: rem))
      ⊢ WP c (foldStep c l) (fun _ => iprop((zR c l ∗ held X c l) ∗ St X K c ls rem)) := by
  unfold foldStep St
  iintro ⟨Ha, #HR, #HL, HE⟩
  iapply (run_then c (wait_step X K c l ls (l :: rem) h)) $$ [Ha HE]
  · isplitr; · iexact HR
    isplitr; · iexact HL
    isplitl [Ha] <;> iassumption
  iintro ⟨⟨Hz, Hp⟩, HE⟩
  iapply (run_last c (fold_step X c l fullShare ls rem)) $$ [Hp HE]
  · isplitl [Hp]; · unfold rcvPay; iexact Hp
    iexact HE
  iintro ⟨Hp, HE⟩
  isplitr [HE]
  · isplitl [Hz]; · iexact Hz
    unfold held; rw [hf]; iexact Hp
  isplitr; · iexact HR
  isplitr; · iexact HL
  iexact HE

theorem relayStep_run (c : Dev nD) (l l₂ : Lk) (hf : l.f = fullShare.right) (ls rem : List Lk) (h : ∀ l' ∈ l₂ :: ls, lvl l < lvl l')
    (hs : owns (c : Thread nD τ) l.dst fullShare.left (val X (peer c l) l) = sndPay X c l₂) :
    iprop((armed (rcvCell c l) ∗ sendRes c l₂) ∗ St X K c (l₂ :: ls) (l :: rem))
      ⊢ WP c (relayStep c (l, l₂)) (fun _ => iprop((zR c l ∗ crS c l₂ ∗ held X c l) ∗ St X K c ls rem)) := by
  unfold relayStep St
  iintro ⟨⟨Ha, Hs⟩, #HR, #HL, HE⟩
  iapply (run_then c (wait_step X K c l (l₂ :: ls) (l :: rem) h)) $$ [Ha HE]
  · isplitr; · iexact HR
    isplitr; · iexact HL
    isplitl [Ha] <;> iassumption
  iintro ⟨⟨Hz, Hp⟩, HE⟩
  unfold rcvPay
  ihave Hp := (owns_halves (c : Thread nD τ) l.dst fullShare _).1 $$ Hp
  icases Hp with ⟨Hp1, Hp⟩
  ihave Hp1 := (Entails.of_eq hs) $$ Hp1
  iapply (run_then c (send_step X K c l₂ ls (l :: rem))) $$ [Hp1 Hs HE]
  · isplitr; · iexact HR
    isplitl [Hs]; · iexact Hs
    isplitl [Hp1]; · iexact Hp1
    iexact HE
  iintro ⟨Hc, HE⟩
  iapply (run_last c (fold_step X c l fullShare.right ls rem)) $$ [Hp HE]
  · isplitl [Hp] <;> iassumption
  iintro ⟨Hp, HE⟩
  isplitr [HE]
  · isplitl [Hz]; · iexact Hz
    isplitl [Hc]; · iexact Hc
    unfold held; rw [hf]; iexact Hp
  isplitr; · iexact HR
  isplitr; · iexact HL
  iexact HE

theorem leftP_run (c : Dev nD) (l : Lk) :
    iprop(armed (sndCell c l) ∗ St X K c [] []) ⊢ WP c (leftP l) (fun _ => iprop((zS c l ∗ sndPay X c l) ∗ St X K c [] [])) := by
  unfold St
  iintro ⟨Ha, #HR, #HL, HE⟩
  iapply (wp_wand frame (wpE (defs₀ (F := F)) 𝒱₀ (c : Thread nD τ) none) Set.univ) $$ [Ha HE]
  · iapply (left_step X K c l [])
    isplitr; · iexact HR
    isplitl [Ha] <;> iassumption
  iintro %u ⟨Hp, HE⟩
  isplitl [Hp]; · iexact Hp
  isplitr; · iexact HR
  isplitr; · iexact HL
  iexact HE

/-! ## The phases -/

theorem lvl_yz {ls : List (Fin 8)} : ∀ l' ∈ ls.flatMap (fun k => [Lk.y k, Lk.z k]) ++ relays, 2 < lvl l' := by
  intro l' h
  rcases List.mem_append.mp h with h | h
  · obtain ⟨k, -, h⟩ := List.mem_flatMap.mp h
    simp only [List.mem_cons, List.not_mem_nil, or_false] at h
    rcases h with rfl | rfl <;> exact Nat.lt_succ_self 2
  · unfold relays at h
    rcases List.mem_append.mp h with h | h <;> (obtain ⟨k, -, rfl⟩ := List.mem_map.mp h; show 2 < 4; decide)
theorem lvl_four {g : Fin 4 → Lk} (hg : ∀ k, lvl (g k) = 4) (k : Fin 4) (l : List (Fin 4)) {ls : List Lk} (hls : ∀ l' ∈ ls, 3 < lvl l') :
    ∀ l' ∈ g k :: (l.map g ++ ls), 3 < lvl l' := by
  intro l' h
  rcases List.mem_cons.mp h with rfl | h
  · rw [hg]; exact Nat.lt_succ_self 3
  rcases List.mem_append.mp h with h | h
  · obtain ⟨k, -, rfl⟩ := List.mem_map.mp h
    rw [hg]; exact Nat.lt_succ_self 3
  · exact hls l' h

/-- Stage and send every chunk across x. -/
theorem phase_x (c : Dev nD) :
    iprop(bigSepL all8 (fun k => iprop(stAny c k ∗ sendRes c (.x k))) ∗ St X K c (all8.map Lk.x ++ (all8.flatMap (fun k => [Lk.y k, Lk.z k]) ++ relays)) fo0)
      ⊢ WP c (forP (xStep c) all8) (fun _ => iprop(bigSepL all8 (fun k => crS c (.x k))
          ∗ St X K c (all8.flatMap (fun k => [Lk.y k, Lk.z k]) ++ relays) fo0)) := by
  have h := run_list c (xStep c) (fun k => iprop(stAny (F := F) c k ∗ sendRes c (.x k))) (fun k => crS c (.x k))
    (fun l => St X K c (l.map Lk.x ++ (all8.flatMap (fun k => [Lk.y k, Lk.z k]) ++ relays)) fo0)
    (fun k l => xStep_run X K c k (l.map Lk.x ++ (all8.flatMap (fun k => [Lk.y k, Lk.z k]) ++ relays)) fo0) all8
  rw [List.map_nil, List.nil_append] at h
  exact h

/-- Take every chunk in from x, pass it on and fold it. -/
theorem phase_r (c : Dev nD) :
    iprop(bigSepL all8 (fun k => iprop(armed (rcvCell c (.x k)) ∗ sendRes c (.y k) ∗ sendRes c (.z k)))
        ∗ St X K c (all8.flatMap (fun k => [Lk.y k, Lk.z k]) ++ relays) (all8.map Lk.x ++ fo1))
      ⊢ WP c (forP (rStep c) all8) (fun _ => iprop(bigSepL all8 (fun k => iprop(zR c (.x k) ∗ crS c (.y k) ∗ crS c (.z k) ∗ held X c (.x k)))
          ∗ St X K c relays fo1)) := by
  have h := run_list c (rStep c) (fun k => iprop(armed (rcvCell c (.x k)) ∗ sendRes (F := F) c (.y k) ∗ sendRes c (.z k)))
    (fun k => iprop(zR c (.x k) ∗ crS c (.y k) ∗ crS c (.z k) ∗ held X c (.x k)))
    (fun l => St X K c (l.flatMap (fun k => [Lk.y k, Lk.z k]) ++ relays) (l.map Lk.x ++ fo1))
    (fun k l => by
      rw [List.flatMap_cons, List.map_cons]
      exact rStep_run X K c k (l.flatMap (fun k => [Lk.y k, Lk.z k]) ++ relays) (l.map Lk.x ++ fo1) lvl_yz) all8
  rw [List.map_nil, List.nil_append, List.flatMap_nil, List.nil_append] at h
  exact h

/-- Take in and fold what four links brought that is not passed on. -/
theorem phase_fold (c : Dev nD) (g : Fin 4 → Lk) (hf : ∀ k, (g k).f = fullShare) (ls rem : List Lk) (hl : ∀ k, ∀ l' ∈ ls, lvl (g k) < lvl l') :
    iprop(bigSepL all4 (fun k => armed (rcvCell c (g k))) ∗ St X K c ls (all4.map g ++ rem))
      ⊢ WP c (forP (fun k => foldStep c (g k)) all4) (fun _ => iprop(bigSepL all4 (fun k => iprop(zR c (g k) ∗ held X c (g k)))
          ∗ St X K c ls rem)) := by
  have h := run_list c (fun k => foldStep c (g k)) (fun k => armed (F := F) (rcvCell c (g k))) (fun k => iprop(zR c (g k) ∗ held X c (g k)))
    (fun l => St X K c ls (l.map g ++ rem))
    (fun k l => foldStep_run X K c (g k) (hf k) ls (l.map g ++ rem) (hl k)) all4
  rw [List.map_nil, List.nil_append] at h
  exact h

/-- Take in, pass on and fold what four links brought. -/
theorem phase_relay (c : Dev nD) (g g₂ : Fin 4 → Lk) (hf : ∀ k, (g k).f = fullShare.right) (ls rem : List Lk)
    (hl : ∀ k (l : List (Fin 4)), ∀ l' ∈ g₂ k :: (l.map g₂ ++ ls), lvl (g k) < lvl l')
    (hs : ∀ k, owns (c : Thread nD τ) (g k).dst fullShare.left (val X (peer c (g k)) (g k)) = sndPay X c (g₂ k)) :
    iprop(bigSepL all4 (fun k => iprop(armed (rcvCell c (g k)) ∗ sendRes c (g₂ k))) ∗ St X K c (all4.map g₂ ++ ls) (all4.map g ++ rem))
      ⊢ WP c (forP (fun k => relayStep c (g k, g₂ k)) all4)
        (fun _ => iprop(bigSepL all4 (fun k => iprop(zR c (g k) ∗ crS c (g₂ k) ∗ held X c (g k))) ∗ St X K c ls rem)) := by
  have h := run_list c (fun k => relayStep c (g k, g₂ k)) (fun k => iprop(armed (F := F) (rcvCell c (g k)) ∗ sendRes c (g₂ k)))
    (fun k => iprop(zR c (g k) ∗ crS c (g₂ k) ∗ held X c (g k)))
    (fun l => St X K c (l.map g₂ ++ ls) (l.map g ++ rem))
    (fun k l => relayStep_run X K c (g k) (g₂ k) (hf k) (l.map g₂ ++ ls) (l.map g ++ rem) (hl k l) (hs k)) all4
  rw [List.map_nil, List.nil_append, List.map_nil, List.nil_append] at h
  exact h

/-- Wait until every copy has left. -/
theorem phase_left (c : Dev nD) :
    iprop(bigSepL lefts (fun l => armed (sndCell c l)) ∗ St X K c [] [])
      ⊢ WP c (forP leftP lefts) (fun _ => iprop(bigSepL lefts (fun l => iprop(zS c l ∗ sndPay X c l)) ∗ St X K c [] [])) :=
  run_list c leftP (fun l => armed (sndCell c l)) (fun l => iprop(zS c l ∗ sndPay X c l)) (fun _ => St X K c [] []) (fun l _ => leftP_run X K c l) lefts

/-! ## The barrier -/

/-- What a device signals with: the three neighbours' duties, and its own landing slots of each axis. -/
def barRes (c : Dev nD) : sProp 𝕄 :=
  iprop((dutyTok ER (barCell (px c)) 0 0 ∗ dutyTok ER (barCell (qy c)) 0 1 ∗ dutyTok ER (barCell (qz c)) 0 2)
    ∗ (barPay (px c) 0 ∗ barPay (qy c) 1 ∗ barPay (qz c) 2)
    ∗ atPos ER (barCell c) 0 ∅ 0 ∗ cred (tallyAt (barCell c) () 3))

theorem phase_bar (c : Dev nD) (W : Waits sig Unit) :
    iprop(records X K ∗ levAts L lv ∗ barRes c ∗ owes (c : Thread nD τ) (O₀ c) W)
      ⊢ WP c (barrierP c) (fun _ => iprop(semVal (barCell c) 0 ∗ (barPay c 0 ∗ barPay c 1 ∗ barPay c 2)
          ∗ ∃ W, owes (c : Thread nD τ) (oL c order) W)) := by
  unfold barrierP barRes
  iintro ⟨#HR, #HL, ⟨⟨Ht0, Ht1, Ht2⟩, ⟨Hp0, Hp1, Hp2⟩, Hat, Hcr⟩, HO⟩
  ihave #HI := (inv_at X K (c, none)) $$ HR
  simp only [semSignalWord, semWaitWord, Prog.lift, Prog.bind_op, Prog.bind_ret, bind, Prog.bind, Prog.pure_eq_ret]
  unfold O₀
  iapply (Rounds.wp_signal 𝒱₀ ER (Rd X) (c : Thread nD τ) none (dst := (px c : Thread nD τ)) (κ := K (px c, none))
      (d := 0) (by rw [duties_bar]; exact Finset.mem_univ _) ((amount_bar X (px c) 0).trans (by decide)) () (O₂ c) rfl) $$ [HO Ht0 Hp0]
  · isplitr; · iapply (inv_at X K (px c, none)); iexact HR
    isplitl [HO]; · iexact HO
    isplitl [Ht0]; · iexact Ht0
    isplitl [Hp0]; · rw [payload_bar]; iexact Hp0
    iapply (reached_at X K (px c, none)); iexact HR
  iintro HO
  unfold O₂
  iapply (Rounds.wp_signal 𝒱₀ ER (Rd X) (c : Thread nD τ) none (dst := (qy c : Thread nD τ)) (κ := K (qy c, none))
      (d := 1) (by rw [duties_bar]; exact Finset.mem_univ _) ((amount_bar X (qy c) 1).trans (by decide)) () (O₁ c) rfl) $$ [HO Ht1 Hp1]
  · isplitr; · iapply (inv_at X K (qy c, none)); iexact HR
    isplitl [HO]; · iexact HO
    isplitl [Ht1]; · iexact Ht1
    isplitl [Hp1]; · rw [payload_bar]; iexact Hp1
    iapply (reached_at X K (qy c, none)); iexact HR
  iintro HO
  unfold O₁
  iapply (Rounds.wp_signal 𝒱₀ ER (Rd X) (c : Thread nD τ) none (dst := (qz c : Thread nD τ)) (κ := K (qz c, none))
      (d := 2) (by rw [duties_bar]; exact Finset.mem_univ _) ((amount_bar X (qz c) 2).trans (by decide)) () (oL c order) rfl) $$ [HO Ht2 Hp2]
  · isplitr; · iapply (inv_at X K (qz c, none)); iexact HR
    isplitl [HO]; · iexact HO
    isplitl [Ht2]; · iexact Ht2
    isplitl [Hp2]; · rw [payload_bar]; iexact Hp2
    iapply (reached_at X K (qz c, none)); iexact HR
  iintro HO
  iapply (Rounds.wp_wait_rest_token 𝒱₀ ER (Rd X) (c : Thread nD τ) none (κ := K (c, none))
      (wpE_semWait_eq 𝒱₀ (c : Thread nD τ) none Set.univ) (Set.mem_univ _) () (O := oL c order) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_links c (.reg barS) 1 (le_of_eq (lv_bar c)) order (fun l _ => lvl_ge l)); iexact HL
    iexact Hat
  iintro ⟨HO, Hat, -, Hpay⟩
  ihave Hp := (Entails.of_eq (rest_bar X c)) $$ Hpay
  imod (Rounds.cell_close ER (Rd X) (Set.mem_univ (K (c, none))) (fun h => h) (R := 0 + 1) (duties_later X (barCell c))) $$ [Hat] with Hz
  · isplitr; · iexact HI
    iexact Hat
  rw [wp_ret]; imodintro
  isplitl [Hz]; · iexact Hz
  isplitl [Hp]; · iexact Hp
  iexists _; iexact HO

end Cert.KernelIdeal.Run

end
-- ==== Proof.Run.lean ====
/- The body from its barrier to its last wait: what a device holds before it and what it holds after it, family by family. -/
module

public import proofs.«01_k».proof.Proof.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Bar
omit [FloatOps F]

/-- The three axes' links are all links. -/
theorem axis_fam (Φ : Lk → sProp 𝕄) : iprop(bigSepL (axis 0) Φ ∗ bigSepL (axis 1) Φ ∗ bigSepL (axis 2) Φ) = fam Φ := by
  unfold fam
  rw [show axis 0 = all8.map Lk.x from rfl, show axis 1 = all8.map Lk.y ++ all4.map Lk.yg from rfl, show axis 2 = all8.map Lk.z ++ all4.map Lk.zg from rfl,
    bigSepL_append, bigSepL_append, bigSepL_map, bigSepL_map, bigSepL_map, bigSepL_map, bigSepL_map]
  generalize bigSepL all8 (fun k => Φ (.x k)) = A
  generalize bigSepL all8 (fun k => Φ (.y k)) = B
  generalize bigSepL all8 (fun k => Φ (.z k)) = C
  generalize bigSepL all4 (fun k => Φ (.yg k)) = D
  generalize bigSepL all4 (fun k => Φ (.zg k)) = E
  have h₁ : iprop(A ∗ (B ∗ D) ∗ C ∗ E) ⊢ iprop(A ∗ B ∗ C ∗ D ∗ E) := by
    iintro ⟨H1, ⟨H2, H4⟩, H3, H5⟩
    isplitl [H1]; · iexact H1
    isplitl [H2]; · iexact H2
    isplitl [H3]; · iexact H3
    isplitl [H4] <;> iassumption
  have h₂ : iprop(A ∗ B ∗ C ∗ D ∗ E) ⊢ iprop(A ∗ (B ∗ D) ∗ C ∗ E) := by
    iintro ⟨H1, H2, H3, H4, H5⟩
    isplitl [H1]; · iexact H1
    isplitl [H2 H4]
    · isplitl [H2] <;> iassumption
    isplitl [H3] <;> iassumption
  exact BI.equiv_iff.mp ⟨h₁, h₂⟩

theorem axis_peer (d : Fin 3) (c : Dev nD) : ∀ l ∈ axis d, ∀ e, (d = 0 → e = px c) → (d = 1 → e = qy c) → (d = 2 → e = qz c) → peer e l = c := by
  intro l hl e h0 h1 h2
  fin_cases d
  · obtain ⟨k, -, rfl⟩ := List.mem_map.mp hl
    rw [h0 rfl]; exact px_px c
  · rcases List.mem_append.mp hl with h | h <;> (obtain ⟨k, -, rfl⟩ := List.mem_map.mp h; rw [h1 rfl]; exact qy_qy c)
  · rcases List.mem_append.mp hl with h | h <;> (obtain ⟨k, -, rfl⟩ := List.mem_map.mp h; rw [h2 rfl]; exact qz_qz c)

/-- A device's landing slots, handed over axis by axis. -/
theorem lands_out (c : Dev nD) : fam (land (F := F) c) ⊢ iprop(barPay (F := F) (px c) 0 ∗ barPay (qy c) 1 ∗ barPay (qz c) 2) := by
  rw [← axis_fam]
  unfold barPay
  have h (d : Fin 3) (e : Dev nD) (h0 : d = 0 → e = px c) (h1 : d = 1 → e = qy c) (h2 : d = 2 → e = qz c) :
      bigSepL (axis d) (land (F := F) c) ⊢ bigSepL (axis d) (fun l => land (F := F) (peer e l) l) :=
    bigSepL_mono fun l hl => Entails.of_eq (by rw [axis_peer d c l hl e h0 h1 h2])
  iintro ⟨H1, H2, H3⟩
  isplitl [H1]; · iapply (h 0 (px c) (fun _ => rfl) (fun h => absurd h (by decide)) (fun h => absurd h (by decide))); iexact H1
  isplitl [H2]; · iapply (h 1 (qy c) (fun h => absurd h (by decide)) (fun _ => rfl) (fun h => absurd h (by decide))); iexact H2
  iapply (h 2 (qz c) (fun h => absurd h (by decide)) (fun h => absurd h (by decide)) (fun _ => rfl)); iexact H3

/-- The neighbours' landing slots, received axis by axis. -/
theorem lands_in (c : Dev nD) : iprop(barPay (F := F) c 0 ∗ barPay c 1 ∗ barPay c 2) ⊢ fam (fun l => land (F := F) (peer c l) l) := by
  rw [← axis_fam]; unfold barPay
  exact Entails.of_eq rfl

end Bar

variable (X : XS F) (K : Cl → ℕ)

theorem mem_fo0 (l : Lk) : l ∈ fo0 := by revert l; decide +kernel

/-- The tokens a link's copy pays with. -/
def sendTok (c : Dev nD) (l : Lk) : sProp 𝕄 := iprop(dutyTok ER (sndCell c l) 0 0 ∗ dutyTok ER (rcvCell (peer c l) l) 0 0)

/-- What a device's body starts from. -/
def bodyIn (c : Dev nD) : sProp 𝕄 :=
  iprop((dutyTok ER (barCell (px c)) 0 0 ∗ dutyTok ER (barCell (qy c)) 0 1 ∗ dutyTok ER (barCell (qz c)) 0 2)
    ∗ (atPos ER (barCell c) 0 ∅ 0 ∗ cred (tallyAt (barCell c) () 3))
    ∗ fam (land c) ∗ bigSepL all8 (stAny c)
    ∗ fam (fun l => armed (rcvCell c l)) ∗ fam (sendTok c) ∗ fam (fun l => atPos ER (sndCell c l) 0 ∅ 0))

/-- What it ends with, besides its environment. -/
def bodyOut (c : Dev nD) : sProp 𝕄 :=
  iprop(semVal (barCell c) 0 ∗ fam (zR c) ∗ fam (zS c) ∗ fam (sndPay X c) ∗ fam (held X c))

set_option maxHeartbeats 1600000 in
/-- The body from its start to its end. -/
theorem body_run (c : Dev nD) (f : (cc0_stg1_0 : Ref sig .tc).ty.Contents (Elt F)) (W : Waits sig Unit) :
    iprop(records X K ∗ levAts L lv ∗ bodyIn c ∗ xPts X c ∗ oPts c f ∗ owes (c : Thread nD τ) (O₀ c) W)
      ⊢ WP c (bodyP c) (fun _ => iprop(bodyOut X c ∗ Env X c [] [])) := by
  unfold bodyP bodyIn
  iintro ⟨#HR, #HL, ⟨Htb, ⟨Hat, Hcr⟩, Hland, Hst, Harm, Htok, Hpos⟩, Hx, Ho, HO⟩
  ihave Hland := (lands_out c) $$ Hland
  iapply (run_then c (phase_bar X K c W)) $$ [Htb Hat Hcr Hland HO]
  · isplitr; · iexact HR
    isplitr; · iexact HL
    isplitr [HO]; swap; · iexact HO
    unfold barRes
    isplitl [Htb]; · iexact Htb
    isplitl [Hland]; · iexact Hland
    isplitl [Hat] <;> iassumption
  iintro ⟨Hzb, Hland, HO⟩
  ihave Hland := (lands_in c) $$ Hland
  -- the resources of each family's copies
  have hres : iprop(fam (sendTok (F := F) c) ∗ fam (fun l => land (F := F) (peer c l) l)) ⊢ fam (sendRes c) := by
    rw [← fam_sep]
    refine Entails.of_eq (congrArg fam (funext fun l => ?_))
    unfold sendTok sendRes
    exact BI.equiv_iff.mp ⟨BI.sep_assoc, BI.sep_assoc'⟩
  ihave Hres := hres $$ [Htok Hland]
  · isplitl [Htok] <;> iassumption
  ihave HS := (show iprop(xPts X c ∗ oPts c f ∗ ∃ W, owes (c : Thread nD τ) (oL c order) W) ⊢ Env X c order fo0 by
    unfold Env oSt
    iintro ⟨Hx, Ho, HO⟩
    isplitl [Hx]; · iexact Hx
    isplitl [Ho]
    · iexists f; isplitr
      · ipureintro; exact fun l hl => absurd (mem_fo0 l) hl
      iexact Ho
    iexact HO) $$ [Hx Ho HO]
  · isplitl [Hx]; · iexact Hx
    isplitl [Ho] <;> iassumption
  unfold fam
  icases Harm with ⟨Hax, Hay, Haz, Hayg, Hazg⟩
  icases Hres with ⟨Hrx, Hry, Hrz, Hryg, Hrzg⟩
  ihave Hay := (Entails.of_eq (all8_split _)) $$ Hay
  icases Hay with ⟨Hayd, Hayu⟩
  ihave Haz := (Entails.of_eq (all8_split _)) $$ Haz
  icases Haz with ⟨Hazd, Hazu⟩
  -- across x
  have p1 := phase_x X K c
  simp only [bigSepL_sep] at p1
  iapply (run_then c p1) $$ [Hst Hrx HS]
  · isplitl [Hst Hrx]; · isplitl [Hst] <;> iassumption
    unfold St
    isplitr; · iexact HR
    isplitr; · iexact HL
    iexact HS
  iintro ⟨Hcx, HS⟩
  -- in from x
  have p2 := phase_r X K c
  simp only [bigSepL_sep] at p2
  iapply (run_then c p2) $$ [Hax Hry Hrz HS]
  · isplitl [Hax Hry Hrz]
    · isplitl [Hax]; · iexact Hax
      isplitl [Hry] <;> iassumption
    iexact HS
  iintro ⟨⟨Hzx, Hcy, Hcz, Hhx⟩, HS⟩
  -- in from y, the lower chunks
  have p3 := phase_fold X K c (fun k => .y (dn k)) f_ydn relays fo2 (fun k => by
    unfold relays; intro l' h
    rcases List.mem_append.mp h with h | h <;> (obtain ⟨k, -, rfl⟩ := List.mem_map.mp h; exact Nat.lt_succ_self 3))
  simp only [bigSepL_sep] at p3
  iapply (run_then c p3) $$ [Hayd HS]
  · isplitl [Hayd]; · iexact Hayd
    iexact HS
  iintro ⟨⟨Hzyd, Hhyd⟩, HS⟩
  -- the upper chunks, passed on across z
  have p4 := phase_relay X K c (fun k => .y (up k)) .zg f_yup (all4.map Lk.yg) fo3 (fun k l => lvl_four (fun _ => rfl) k l (fun l' h => by
    obtain ⟨k, -, rfl⟩ := List.mem_map.mp h; exact Nat.lt_succ_self 3)) (fun k => rfl)
  simp only [bigSepL_sep] at p4
  iapply (run_then c p4) $$ [Hayu Hrzg HS]
  · isplitl [Hayu Hrzg]
    · isplitl [Hayu] <;> iassumption
    iexact HS
  iintro ⟨⟨Hzyu, Hczg, Hhyu⟩, HS⟩
  -- in from z, the lower chunks, passed on across y
  have p5 := phase_relay X K c (fun k => .z (dn k)) .yg f_zdn [] fo4 (fun k l => lvl_four (fun _ => rfl) k l (fun l' h => absurd h List.not_mem_nil))
    (fun k => rfl)
  rw [List.append_nil] at p5
  simp only [bigSepL_sep] at p5
  iapply (run_then c p5) $$ [Hazd Hryg HS]
  · isplitl [Hazd Hryg]
    · isplitl [Hazd] <;> iassumption
    iexact HS
  iintro ⟨⟨Hzzd, Hcyg, Hhzd⟩, HS⟩
  -- the upper chunks
  have p6 := phase_fold X K c (fun k => .z (up k)) f_zup [] fo5 (fun k _ h => absurd h List.not_mem_nil)
  simp only [bigSepL_sep] at p6
  iapply (run_then c p6) $$ [Hazu HS]
  · isplitl [Hazu]; · iexact Hazu
    iexact HS
  iintro ⟨⟨Hzzu, Hhzu⟩, HS⟩
  -- what was passed on
  have p7 := phase_fold X K c .yg (fun _ => rfl) [] fo6 (fun k _ h => absurd h List.not_mem_nil)
  simp only [bigSepL_sep] at p7
  iapply (run_then c p7) $$ [Hayg HS]
  · isplitl [Hayg]; · iexact Hayg
    iexact HS
  iintro ⟨⟨Hzyg, Hhyg⟩, HS⟩
  have p8 := phase_fold X K c .zg (fun _ => rfl) [] [] (fun k _ h => absurd h List.not_mem_nil)
  rw [List.append_nil] at p8
  simp only [bigSepL_sep] at p8
  iapply (run_then c p8) $$ [Hazg HS]
  · isplitl [Hazg]; · iexact Hazg
    iexact HS
  iintro ⟨⟨Hzzg, Hhzg⟩, HS⟩
  -- every copy has left
  have p9 := phase_left X K c
  rw [lefts_fam, lefts_fam, show (fun l => armed (sndCell c l)) = (fun l => iprop(atPos ER (sndCell c l) 0 ∅ 0 ∗ crS (F := F) c l)) from rfl, fam_sep, fam_sep] at p9
  unfold fam at p9
  iapply (run_last c p9) $$ [Hpos Hcx Hcy Hcz Hcyg Hczg HS]
  · isplitr [HS]; swap; · iexact HS
    isplitl [Hpos]; · iexact Hpos
    isplitl [Hcx]; · iexact Hcx
    isplitl [Hcy]; · iexact Hcy
    isplitl [Hcz]; · iexact Hcz
    isplitl [Hcyg] <;> iassumption
  iintro ⟨⟨Hzs, Hsp⟩, HS⟩
  unfold bodyOut St fam
  icases HS with ⟨-, -, HE⟩
  isplitr [HE]; swap; · iexact HE
  isplitl [Hzb]; · iexact Hzb
  isplitl [Hzx Hzyd Hzyu Hzzd Hzzu Hzyg Hzzg]
  · isplitl [Hzx]; · iexact Hzx
    isplitl [Hzyd Hzyu]
    · iapply (Entails.of_eq (all8_split (fun k => zR (F := F) c (.y k))).symm)
      isplitl [Hzyd] <;> iassumption
    isplitl [Hzzd Hzzu]
    · iapply (Entails.of_eq (all8_split (fun k => zR (F := F) c (.z k))).symm)
      isplitl [Hzzd] <;> iassumption
    isplitl [Hzyg] <;> iassumption
  isplitl [Hzs]; · iexact Hzs
  isplitl [Hsp]; · iexact Hsp
  isplitl [Hhx]; · iexact Hhx
  isplitl [Hhyd Hhyu]
  · iapply (Entails.of_eq (all8_split (fun k => held X c (.y k))).symm)
    isplitl [Hhyd] <;> iassumption
  isplitl [Hhzd Hhzu]
  · iapply (Entails.of_eq (all8_split (fun k => held X c (.z k))).symm)
    isplitl [Hhzd] <;> iassumption
  isplitl [Hhyg] <;> iassumption

end Cert.KernelIdeal.Run

end
-- ==== Proof.Slots.lean ====
/- The scratch buffers slot by slot: a device's six stacks split into their slots before the body and join again after it. -/
module

public import proofs.«01_k».proof.Proof.Run
public import Idealize.ShloMosaic.Lib.Ring

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Stack
omit [FloatOps F]
variable {n : ℕ} (M : Memref sig .tc .vmem (SH n) .bf16)

/-- The elements of a slot. -/
def slotSet (k : Fin n) : Finset M.view.ty.Idx := (slotR k).set.map M.view.emb

theorem slot_set_eq (k : Fin n) : (slot M k).view.set = slotSet M k := (slot_set M k).trans (View.set_slice ..)

theorem slot_disjoint (k k' : Fin n) (h : k ≠ k') : Disjoint (slotSet M k) (slotSet M k') :=
  (Finset.disjoint_map _).mpr (Ring.lead_disjoint (s := SH n) (0 : Fin 3) 1 (fun k : Fin n => ![k.val, 0, 0]) S1x64x512.size inbS
    (fun b => (Nat.one_mul _).symm) rfl k k' h)

theorem slot_cover (hM : M.view.set = Finset.univ) : Finset.univ.biUnion (slotSet M) = Finset.univ := by
  have h := Ring.lead_cover (s := SH n) (0 : Fin 3) 1 (fun k : Fin n => ![k.val, 0, 0]) S1x64x512.size inbS
    (fun b => (Nat.one_mul _).symm) (fun b a ha => by fin_cases a <;> first | exact absurd rfl ha | rfl) rfl
    (fun a ha => by fin_cases a <;> first | exact absurd rfl ha | rfl) (Nat.mul_one n)
  refine Finset.eq_univ_iff_forall.mpr fun i => ?_
  obtain ⟨j, -, rfl⟩ := Finset.mem_map.mp (show i ∈ M.view.set by rw [hM]; exact Finset.mem_univ i)
  obtain ⟨k, -, hk⟩ := Finset.mem_biUnion.mp (show j ∈ Finset.univ.biUnion (fun k : Fin n => (slotR k).set) by rw [h]; exact Finset.mem_univ j)
  exact Finset.mem_biUnion.mpr ⟨k, Finset.mem_univ k, Finset.mem_map_of_mem _ hk⟩

/-- A slot at some contents. -/
def slotAny (c : Dev nD) (k : Fin n) : sProp 𝕄 := iprop(∃ Y : Vec F S64x512 .bf16, owns (c : Thread nD τ) (slot M k) fullShare Y)

/-- A stack held whole is held slot by slot; -/
theorem stack_split (hM : M.view.set = Finset.univ) (c : Dev nD) :
    iprop(∃ f, M.view.loc (c : Thread nD τ) ↦{fullShare} f) ⊢ bigSep Finset.univ fun k : Fin n => slotAny (F := F) M c k := by
  have h (f : Buf (Elt F) (M.view.loc (c : Thread nD τ))) : (M.view.loc (c : Thread nD τ) ↦{fullShare} f : sProp 𝕄)
      ⊢ bigSep Finset.univ fun k : Fin n => slotAny (F := F) M c k := by
    rw [Ring.pointsTo_blocks (ℓ := M.view.loc (c : Thread nD τ)) (slotSet M) (slot_disjoint M) (slot_cover M hM)]
    refine bigSep_mono fun k _ => ?_
    rw [← slot_set_eq]
    have h := owns_intro (Ix := Unit) (Name := ℕ) (U := UU) (Lvl := ℕ) (c : Thread nD τ) (slot M k) fullShare f
    refine BIBase.Entails.trans h ?_
    unfold slotAny
    iintro H
    iexists ((slot M k).view.read (Elt F) f)
    iexact H
  iintro ⟨%f, H⟩
  iapply (h f); iexact H

/-- and the slots join to it. -/
theorem stack_join (f₀ : M.view.ty.Contents (Elt F)) (hM : M.view.set = Finset.univ) (c : Dev nD) :
    (bigSep Finset.univ fun k : Fin n => slotAny (F := F) M c k) ⊢ iprop(∃ f, M.view.loc (c : Thread nD τ) ↦{fullShare} f) := by
  have h (k : Fin n) : slotAny (F := F) M c k ⊢ iprop(∃ f, M.view.loc (c : Thread nD τ) ↦[slotSet M k]{fullShare} f) := by
    unfold slotAny owns
    rw [← slot_set_eq]
    iintro ⟨%Y, %f, -, H⟩
    iexists f; iexact H
  exact (bigSep_mono fun k _ => h k).trans (Ring.pointsTo_blocks_join_exists (ℓ := M.view.loc (c : Thread nD τ)) (slotSet M)
    (slot_disjoint M) (slot_cover M hM) (q := fullShare) f₀)

end Stack

omit [FloatOps F] in
theorem all8_univ (Φ : Fin 8 → sProp 𝕄) : bigSep Finset.univ Φ = bigSepL all8 Φ := bigSep_univ_eq_bigSepL all8 (by decide) (by decide) Φ
omit [FloatOps F] in
theorem all4_univ (Φ : Fin 4 → sProp 𝕄) : bigSep Finset.univ Φ = bigSepL all4 Φ := bigSep_univ_eq_bigSepL all4 (by decide) (by decide) Φ

/-- A device's six scratch stacks, each whole at some contents. -/
def scratch (c : Dev nD) : sProp 𝕄 :=
  iprop((∃ f, stM.view.loc (c : Thread nD τ) ↦{fullShare} f) ∗ (∃ f, rxM.view.loc (c : Thread nD τ) ↦{fullShare} f) ∗ (∃ f, ydM.view.loc (c : Thread nD τ) ↦{fullShare} f)
    ∗ (∃ f, zdM.view.loc (c : Thread nD τ) ↦{fullShare} f) ∗ (∃ f, ygM.view.loc (c : Thread nD τ) ↦{fullShare} f) ∗ (∃ f, zgM.view.loc (c : Thread nD τ) ↦{fullShare} f))

omit [FloatOps F] in
/-- The stacks split into the staging slots and every link's landing slot. -/
theorem scratch_split (c : Dev nD) : scratch (F := F) c ⊢ iprop(bigSepL all8 (stAny c) ∗ fam (land c)) := by
  unfold scratch fam
  rw [← all8_univ, ← all8_univ, ← all8_univ, ← all8_univ, ← all4_univ, ← all4_univ]
  iintro ⟨H0, H1, H2, H3, H4, H5⟩
  isplitl [H0]; · iapply (stack_split (F := F) stM (View.set_whole _) c); iexact H0
  isplitl [H1]; · iapply (stack_split (F := F) rxM (View.set_whole _) c); iexact H1
  isplitl [H2]; · iapply (stack_split (F := F) ydM (View.set_whole _) c); iexact H2
  isplitl [H3]; · iapply (stack_split (F := F) zdM (View.set_whole _) c); iexact H3
  isplitl [H4]; · iapply (stack_split (F := F) ygM (View.set_whole _) c); iexact H4
  iapply (stack_split (F := F) zgM (View.set_whole _) c); iexact H5

variable (X : XS F)

/-- A slot held in full is a slot at some contents; -/
theorem any_of {n : ℕ} (M : Memref sig .tc .vmem (SH n) .bf16) (c : Dev nD) (k : Fin n) (Y : Vec F S64x512 .bf16) :
    owns (c : Thread nD τ) (slot M k) fullShare Y ⊢ slotAny (F := F) M c k := by
  unfold slotAny; iintro H; iexists Y; iexact H
/-- and so is one held in two halves. -/
theorem any_of_halves {n : ℕ} (M : Memref sig .tc .vmem (SH n) .bf16) (c : Dev nD) (k : Fin n) (Y : Vec F S64x512 .bf16) :
    iprop(owns (c : Thread nD τ) (slot M k) fullShare.left Y ∗ owns (c : Thread nD τ) (slot M k) fullShare.right Y) ⊢ slotAny (F := F) M c k :=
  (owns_halves (c : Thread nD τ) (slot M k) fullShare Y).2.trans (any_of M c k Y)

/-- The chunk that came over x: lent to two copies, the rest kept. -/
theorem back_x (c : Dev nD) (k : Fin 8) : iprop(sndPay X c (.y k) ∗ sndPay X c (.z k) ∗ held X c (.x k)) ⊢ slotAny (F := F) rxM c k := by
  have h := (owns_halves (Ix := Unit) (Name := ℕ) (U := UU) (Lvl := ℕ) (c : Thread nD τ) (slot rxM k) fullShare.right (val X c (.y k))).2
  have h' := any_of_halves (F := F) rxM c k (val X c (.y k))
  iintro ⟨H1, H2, H3⟩
  iapply h'
  isplitl [H1]; · unfold sndPay; iexact H1
  iapply h
  isplitl [H2]; · unfold sndPay; iexact H2
  unfold held; iexact H3
theorem back_y (c : Dev nD) (k : Fin 4) : iprop(sndPay X c (.zg k) ∗ held X c (.y (up k))) ⊢ slotAny (F := F) ydM c (up k) := by
  have h' := any_of_halves (F := F) ydM c (up k) (val X c (.zg k))
  iintro ⟨H1, H2⟩
  iapply h'
  isplitl [H1]; · unfold sndPay; iexact H1
  unfold held; rw [f_yup]; iexact H2
theorem back_z (c : Dev nD) (k : Fin 4) : iprop(sndPay X c (.yg k) ∗ held X c (.z (dn k))) ⊢ slotAny (F := F) zdM c (dn k) := by
  have h' := any_of_halves (F := F) zdM c (dn k) (val X c (.yg k))
  iintro ⟨H1, H2⟩
  iapply h'
  isplitl [H1]; · unfold sndPay; iexact H1
  unfold held; rw [f_zdn]; iexact H2
/-- A chunk lent to no copy. -/
theorem back_full {n : ℕ} (M : Memref sig .tc .vmem (SH n) .bf16) (c : Dev nD) (k : Fin n) (l : Lk) (hd : l.dst = slot M k) (hf : l.f = fullShare) :
    held X c l ⊢ slotAny (F := F) M c k := by
  unfold held; rw [hf, hd]; exact any_of M c k _

/-- After the body the slots join to the stacks. -/
theorem scratch_join (f₀ : ∀ n, Vec F (SH n) .bf16) (c : Dev nD) : iprop(fam (sndPay X c) ∗ fam (held X c)) ⊢ scratch (F := F) c := by
  unfold fam scratch
  iintro ⟨⟨Sx, Sy, Sz, Syg, Szg⟩, Hx, Hy, Hz, Hyg, Hzg⟩
  ihave Hy := (Entails.of_eq (all8_split _)) $$ Hy
  icases Hy with ⟨Hyd, Hyu⟩
  ihave Hz := (Entails.of_eq (all8_split _)) $$ Hz
  icases Hz with ⟨Hzd, Hzu⟩
  isplitl [Sx]
  · have h : bigSepL all8 (fun k => sndPay X c (.x k)) ⊢ bigSepL all8 (fun k => slotAny (F := F) stM c k) := bigSepL_mono fun k _ => any_of stM c k _
    iapply (stack_join (F := F) stM (f₀ 8) (View.set_whole _) c); rw [all8_univ]
    iapply h; iexact Sx
  isplitl [Sy Sz Hx]
  · have h : bigSepL all8 (fun k => iprop(sndPay X c (.y k) ∗ sndPay X c (.z k) ∗ held X c (.x k))) ⊢ bigSepL all8 (fun k => slotAny (F := F) rxM c k) :=
      bigSepL_mono fun k _ => back_x X c k
    rw [bigSepL_sep, bigSepL_sep] at h
    iapply (stack_join (F := F) rxM (f₀ 8) (View.set_whole _) c); rw [all8_univ]
    iapply h
    isplitl [Sy]; · iexact Sy
    isplitl [Sz] <;> iassumption
  isplitl [Szg Hyd Hyu]
  · have h : bigSepL all4 (fun k => iprop(sndPay X c (.zg k) ∗ held X c (.y (up k)))) ⊢ bigSepL all4 (fun k => slotAny (F := F) ydM c (up k)) :=
      bigSepL_mono fun k _ => back_y X c k
    have h' : bigSepL all4 (fun k => held X c (.y (dn k))) ⊢ bigSepL all4 (fun k => slotAny (F := F) ydM c (dn k)) :=
      bigSepL_mono fun k _ => back_full X ydM c (dn k) _ rfl (f_ydn k)
    rw [bigSepL_sep] at h
    iapply (stack_join (F := F) ydM (f₀ 8) (View.set_whole _) c); rw [all8_univ, all8_split]
    isplitl [Hyd]; · iapply h'; iexact Hyd
    iapply h
    isplitl [Szg] <;> iassumption
  isplitl [Syg Hzd Hzu]
  · have h : bigSepL all4 (fun k => iprop(sndPay X c (.yg k) ∗ held X c (.z (dn k)))) ⊢ bigSepL all4 (fun k => slotAny (F := F) zdM c (dn k)) :=
      bigSepL_mono fun k _ => back_z X c k
    have h' : bigSepL all4 (fun k => held X c (.z (up k))) ⊢ bigSepL all4 (fun k => slotAny (F := F) zdM c (up k)) :=
      bigSepL_mono fun k _ => back_full X zdM c (up k) _ rfl (f_zup k)
    rw [bigSepL_sep] at h
    iapply (stack_join (F := F) zdM (f₀ 8) (View.set_whole _) c); rw [all8_univ, all8_split]
    isplitl [Syg Hzd]
    · iapply h
      isplitl [Syg] <;> iassumption
    iapply h'; iexact Hzu
  isplitl [Hyg]
  · have h' : bigSepL all4 (fun k => held X c (.yg k)) ⊢ bigSepL all4 (fun k => slotAny (F := F) ygM c k) :=
      bigSepL_mono fun k _ => back_full X ygM c k _ rfl rfl
    iapply (stack_join (F := F) ygM (f₀ 4) (View.set_whole _) c); rw [all4_univ]
    iapply h'; iexact Hyg
  have h' : bigSepL all4 (fun k => held X c (.zg k)) ⊢ bigSepL all4 (fun k => slotAny (F := F) zgM c k) :=
    bigSepL_mono fun k _ => back_full X zgM c k _ rfl rfl
  iapply (stack_join (F := F) zgM (f₀ 4) (View.set_whole _) c); rw [all4_univ]
  iapply h'; iexact Hzg

end Cert.KernelIdeal.Run

end
-- ==== Proof.Ghost.lean ====
/- The launch's set-up: the cells' invariants allocated for all devices at once, the duties' tokens dealt to the devices that
   pay them, and the credit each device starts with. -/
module

public import proofs.«01_k».proof.Proof.Slots
public import Idealize.ShloMosaic.Lib.Pipeline.Launch
public import Idealize.ShloMosaic.Lib.Pipeline.Kit
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : XS F)

/-! ## Enumerations -/

section Enum
omit [FloatOps F]

theorem side_fam (Φ : Bool × Lk → sProp 𝕄) : bigSep Finset.univ Φ = iprop(fam (fun l => Φ (false, l)) ∗ fam (fun l => Φ (true, l))) := by
  rw [bigSep_univ_prod, bigSep_univ_eq_bigSepL [false, true] (by decide) (by decide), bigSepL_cons_cons, bigSepL_singleton, univ_fam, univ_fam]
  rfl
theorem cell_fam (Φ : Option (Bool × Lk) → sProp 𝕄) :
    bigSep Finset.univ Φ = iprop(Φ none ∗ fam (fun l => Φ (some (false, l))) ∗ fam (fun l => Φ (some (true, l)))) := by
  have h : (Finset.univ : Finset (Option (Bool × Lk))).erase none = Finset.univ.map Function.Embedding.some := by
    ext k; rcases k with _ | k <;> simp
  rw [bigSep_univ_at Φ none, h, bigSep_map, side_fam]
  rfl
theorem fin3_sep (Φ : Fin 3 → sProp 𝕄) : bigSep Finset.univ Φ = iprop(Φ 0 ∗ Φ 1 ∗ Φ 2) := bigSep_univ_eq_bigSepL [0, 1, 2] (by decide) (by decide) Φ

end Enum

/-! ## Cells and tokens -/

theorem kcell_injective : Function.Injective (kcell : Cl → GSem nD τ sig) := by
  have hdev (p : Cl) : (kcell p).1.1 = p.1 := by rcases p with ⟨c, _ | ⟨_ | _, l⟩⟩ <;> rfl
  rintro ⟨c, k⟩ ⟨c', k'⟩ h
  have h1 : c = c' := by have := congrArg (fun g : GSem nD τ sig => g.1.1) h; rw [hdev, hdev] at this; exact this
  subst h1
  have h2 := congrArg Prod.snd h
  rcases k with _ | ⟨_ | _, l⟩ <;> rcases k' with _ | ⟨_ | _, l'⟩
  · rfl
  · cases h2
  · cases h2
  · cases h2
  · have := congrArg dec (show l.snd = l'.snd by injection h2)
    rw [dec_snd, dec_snd] at this; injection this with this; injection this with _ this; rw [this]
  · have := congrArg dec (show l.snd = l'.rcv by injection h2)
    rw [dec_snd, dec_rcv] at this; cases this
  · cases h2
  · have := congrArg dec (show l.rcv = l'.snd by injection h2)
    rw [dec_snd, dec_rcv] at this; cases this
  · have := congrArg dec (show l.rcv = l'.rcv by injection h2)
    rw [dec_rcv, dec_rcv] at this; injection this with this; injection this with _ this; rw [this]

/-- All the protocol's cells. -/
def cells : Finset (GSem nD τ sig) := Finset.univ.map ⟨kcell, kcell_injective⟩

/-- A device's own cells' duties: the barrier cell's three, one of each send and receive cell. -/
abbrev tokOf (p : Dev nD × (Fin 3 ⊕ (Bool × Lk))) : GSem nD τ sig × ℕ × Fin 3 := match p.2 with
  | .inl d => (kcell (p.1, none), 0, d)
  | .inr s => (kcell (p.1, some s), 0, 0)
theorem tokOf_injective : Function.Injective tokOf := by
  rintro ⟨c, j⟩ ⟨c', j'⟩ h
  rcases j with d | s <;> rcases j' with d' | s'
  · have h1 := kcell_injective (a₁ := (c, none)) (a₂ := (c', none)) (congrArg Prod.fst h)
    have h2 : d = d' := congrArg (fun x : GSem nD τ sig × ℕ × Fin 3 => x.2.2) h
    injection h1 with h1; subst h1 h2; rfl
  · have h1 := kcell_injective (a₁ := (c, none)) (a₂ := (c', some s')) (congrArg Prod.fst h)
    injection h1 with _ h1; cases h1
  · have h1 := kcell_injective (a₁ := (c, some s)) (a₂ := (c', none)) (congrArg Prod.fst h)
    injection h1 with _ h1; cases h1
  · have h1 := kcell_injective (a₁ := (c, some s)) (a₂ := (c', some s')) (congrArg Prod.fst h)
    injection h1 with h1 h2; injection h2 with h2; subst h1 h2; rfl
def toksAll : Finset (GSem nD τ sig × ℕ × Fin 3) := Finset.univ.map ⟨tokOf, tokOf_injective⟩

def u₀ : UU :=
  (initOf (Pipeline.cells cfgs cellOf_inj) (Pipeline.launchToks cfgs cellOf_inj), initOf cells toksAll)

/-- The tokens of a device's own cells, -/
def toks (c : Dev nD) : sProp 𝕄 :=
  iprop((dutyTok ER (barCell c) 0 0 ∗ dutyTok ER (barCell c) 0 1 ∗ dutyTok ER (barCell c) 0 2)
    ∗ fam (fun l => dutyTok ER (sndCell c l) 0 0) ∗ fam (fun l => dutyTok ER (rcvCell c l) 0 0))
/-- and the tokens of the duties it pays. -/
def payToks (c : Dev nD) : sProp 𝕄 :=
  iprop((dutyTok ER (barCell (px c)) 0 0 ∗ dutyTok ER (barCell (qy c)) 0 1 ∗ dutyTok ER (barCell (qz c)) 0 2)
    ∗ fam (fun l => dutyTok ER (sndCell c l) 0 0) ∗ fam (fun l => dutyTok ER (rcvCell (peer c l) l) 0 0))

/-- What the launch deals a device, -/
def G (c : Dev nD) : sProp 𝕄 :=
  iprop((bigSep Finset.univ fun k => roundState ER (Rd X) (kcell (c, k)) 0)
    ∗ (bigSep Finset.univ fun k => iprop(atPos ER (kcell (c, k)) 0 ∅ 0 ∗ reached ER (kcell (c, k)) 0)) ∗ toks c)
/-- what of it stays with the device, -/
def linear (c : Dev nD) : sProp 𝕄 := iprop((bigSep Finset.univ fun k => atPos ER (kcell (c, k)) 0 ∅ 0) ∗ payToks c)
/-- and what it starts from. -/
def G' (c : Dev nD) : sProp 𝕄 := iprop(∃ K, records X K ∗ linear c)

theorem fund_cells : BI.own (ER (initOf cells toksAll)) ⊢ (|==> bigSep Finset.univ (G X) : sProp 𝕄) := by
  have hX (Φ : GSem nD τ sig → sProp 𝕄) : bigSep cells Φ = bigSep Finset.univ fun c : Dev nD => bigSep Finset.univ fun k => Φ (kcell (c, k)) := by
    unfold cells; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    exact bigSep_congr fun c _ => by unfold toks; rw [bigSep_univ_sum, fin3_sep, side_fam]; rfl
  iintro HX
  imod (Rounds.fund ER (Rd X) cells toksAll) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: each link's on either side. -/
abbrev osem : Bool × Lk → SemLoc sig
  | (false, l) => .dma l.snd
  | (true, l) => .dma l.rcv

theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop(fam (zS (F := F) c) ∗ fam (zR (F := F) c)) := by
  unfold Pipeline.ownSems0; rw [side_fam]
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, cell_fam]
  iintro ⟨⟨HS, HV⟩, HB⟩
  isplitl [HB]; · iexact HB
  isplitl [HS]; · iexact HS
  iexact HV

/-! ## The invariants -/

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def pxE : Dev nD ≃ Dev nD := ⟨px, px, px_px, px_px⟩
def qyE : Dev nD ≃ Dev nD := ⟨qy, qy, qy_qy, qy_qy⟩
def qzE : Dev nD ≃ Dev nD := ⟨qz, qz, qz_qz, qz_qz⟩

omit [FloatOps F] in
/-- Every device's receive cells are every device's peers' receive cells. -/
theorem fam_around (Φ : Dev nD → Lk → sProp 𝕄) :
    (bigSep Finset.univ fun c : Dev nD => fam (Φ c)) = bigSep Finset.univ fun c : Dev nD => fam (fun l => Φ (peer c l) l) := by
  unfold fam
  rw [bigSep_sep', bigSep_sep', bigSep_sep', bigSep_sep', bigSep_sep', bigSep_sep', bigSep_sep', bigSep_sep',
    bigSep_univ_equiv pxE (fun c => bigSepL all8 fun k => Φ c (.x k)), bigSep_univ_equiv qyE (fun c => bigSepL all8 fun k => Φ c (.y k)),
    bigSep_univ_equiv qzE (fun c => bigSepL all8 fun k => Φ c (.z k)), bigSep_univ_equiv qyE (fun c => bigSepL all4 fun k => Φ c (.yg k)),
    bigSep_univ_equiv qzE (fun c => bigSepL all4 fun k => Φ c (.zg k))]
  rfl

omit [FloatOps F] in
/-- The tokens dealt to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pxE (fun c : Dev nD => (dutyTok ER (barCell c) 0 0 : sProp 𝕄)),
    bigSep_univ_equiv qyE (fun c : Dev nD => (dutyTok ER (barCell c) 0 1 : sProp 𝕄)),
    bigSep_univ_equiv qzE (fun c : Dev nD => (dutyTok ER (barCell c) 0 2 : sProp 𝕄)),
    fam_around (F := F) (fun c l => dutyTok ER (rcvCell c l) 0 0)]
  exact Entails.of_eq rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem start_one (K : Cl → ℕ) (c : Dev nD) : iprop(records X K ∗ linear c) ⊢ G' X c := by
  unfold G'; iintro H; iexists K; iexact H

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun p : Cl => iprop(∃ κ : ℕ, cellInv ER (Rd X) κ (kcell p))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun p : Cl => (reached ER (kcell p) 0 : sProp 𝕄))]
  iintro ⟨HI, ⟨Hat, #HR⟩, Htok⟩
  ihave HK := (BI.bigSep_exists_pi Finset.univ (fun (p : Cl) (κ : ℕ) => (cellInv ER (Rd X) κ (kcell p) : sProp 𝕄))) $$ HI
  icases HK with ⟨%K, #HI⟩
  ihave Htk := (toks_around (F := F)) $$ Htok
  iapply (bigSep_with_persistent (R := records X K) fun c _ => start_one X K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch credit -/

theorem bar_eq_iff {a b : Dev nD} : Iff (barCell a = barCell b) (a = b) :=
  ⟨fun h => Fin.ext (congrArg (fun g : GSem nD τ sig => g.1.1.val) h), fun h => h ▸ rfl⟩
theorem rcv_eq_iff {a b : Dev nD} {l l' : Lk} : Iff (rcvCell a l = rcvCell b l') (a = b ∧ l = l') :=
  ⟨fun h => by
    have := kcell_injective (a₁ := (a, some (true, l))) (a₂ := (b, some (true, l'))) h
    injection this with h1 h2; injection h2 with h2; injection h2 with _ h2; exact ⟨h1, h2⟩, fun h => by rw [h.1, h.2]⟩

/-- A device owes a barrier cell no link credit. -/
theorem oL_bar (d c : Dev nD) (ls : List Lk) : oL d ls (barCell c) () = 0 :=
  Nat.eq_zero_of_not_pos fun h => by obtain ⟨l, -, e⟩ := oL_pos h; exact absurd (congrArg Prod.snd e) (fun h => by cases h)
/-- Of a link sent once, a device owes its peer's receive cell the copy's count and no other's. -/
theorem oL_rcv (d c : Dev nD) (l : Lk) (ls : List Lk) (hn : ls.Nodup) (hl : l ∈ ls) : oL d ls (rcvCell c l) () = if d = peer c l then N else 0 := by
  induction ls with
  | nil => exact absurd hl List.not_mem_nil
  | cons l' ls ih =>
    unfold oL
    rw [Pi.add_apply, Finsupp.add_apply, tallyAt_apply]
    obtain ⟨hn1, hn2⟩ := List.nodup_cons.mp hn
    by_cases e : l = l'
    · subst e
      have h0 : oL d ls (rcvCell c l) () = 0 := Nat.eq_zero_of_not_pos fun h => by
        obtain ⟨l'', h1, h2⟩ := oL_pos h
        rw [rcv_eq_iff] at h2
        exact hn1 (h2.2 ▸ h1)
      rw [h0, Nat.zero_add]
      by_cases h : d = peer c l
      · subst h; rw [peer_peer, if_pos ⟨rfl, rfl⟩, if_pos rfl]
      · have hne : ¬ (rcvCell c l = rcvCell (peer d l) l ∧ () = ()) := fun h1 => h (by rw [(rcv_eq_iff.mp h1.1).1, peer_peer])
        rw [if_neg hne, if_neg h]
    · have hne : ¬ (rcvCell c l = rcvCell (peer d l') l' ∧ () = ()) := fun h1 => e (rcv_eq_iff.mp h1.1).2
      rw [ih hn2 ((List.mem_cons.mp hl).resolve_left e), if_neg hne, Nat.add_zero]

theorem order_nodup : order.Nodup := by decide +kernel
theorem mem_order (l : Lk) : l ∈ order := by revert l; decide +kernel

theorem owed_one (d c : Dev nD) (e : Dev nD ≃ Dev nD) (he : ∀ x, e (e x) = x) :
    (tallyAt (barCell (e d)) () 1 : CellTallies nD τ sig Unit) (barCell c) () = if d = e c then 1 else 0 := by
  rw [tallyAt_apply]
  by_cases h : d = e c
  · subst h; rw [he, if_pos ⟨rfl, rfl⟩, if_pos rfl]
  · rw [if_neg (fun ⟨h1, _⟩ => h (by rw [bar_eq_iff.mp h1, he])), if_neg h]

theorem owed_bar (d c : Dev nD) : O₀ d (barCell c) () = (if d = qz c then 1 else 0) + (if d = qy c then 1 else 0) + (if d = px c then 1 else 0) := by
  unfold O₀ O₂ O₁
  rw [Pi.add_apply, Finsupp.add_apply, Pi.add_apply, Finsupp.add_apply, Pi.add_apply, Finsupp.add_apply, oL_bar, Nat.zero_add]
  exact congrArg₂ (· + ·) (congrArg₂ (· + ·) (owed_one d c qzE qz_qz) (owed_one d c qyE qy_qy)) (owed_one d c pxE px_px)

theorem owed_rcv (d c : Dev nD) (l : Lk) : O₀ d (rcvCell c l) () = if d = peer c l then N else 0 := by
  unfold O₀ O₂ O₁
  rw [Pi.add_apply, Finsupp.add_apply, Pi.add_apply, Finsupp.add_apply, Pi.add_apply, Finsupp.add_apply, oL_rcv d c l order order_nodup (mem_order l)]
  have h (e : Dev nD) : (tallyAt (barCell e) () 1 : CellTallies nD τ sig Unit) (rcvCell c l) () = 0 :=
    Nat.eq_zero_of_not_pos fun h => absurd (congrArg Prod.snd (tallyAt_pos h)) (fun h => by cases h)
  simp only [h, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (qz c) fun _ => 1, Finset.sum_ite_eq' Finset.univ (qy c) fun _ => 1, Finset.sum_ite_eq' Finset.univ (px c) fun _ => 1,
    if_pos (Finset.mem_univ _), if_pos (Finset.mem_univ _), if_pos (Finset.mem_univ _)]

theorem launch_rcv (c : Dev nD) (l : Lk) :
    tallyOn (rcvCell c l) (launchCredit (Pipeline.owing O₀) 0 (rcvCell c l)) = (tallyAt (rcvCell c l) () N : CellTallies nD τ sig Unit) := by
  unfold tallyAt; refine congrArg _ (Finsupp.ext fun u => ?_); cases u
  rw [Pipeline.launchCredit_owing, Finsupp.single_eq_same, Finset.sum_congr rfl fun d _ => owed_rcv d c l, Finset.sum_ite_eq' Finset.univ (peer c l) fun _ => N,
    if_pos (Finset.mem_univ _)]

def rcvLoc : Lk ↪ SemLoc sig := ⟨fun l => .dma l.rcv, fun l l' h => by
  have := congrArg dec (show l.rcv = l'.rcv by injection h)
  rw [dec_rcv, dec_rcv] at this; injection this with this; injection this with _ this⟩

omit [FloatOps F] in
theorem creds (c : Dev nD) :
    (Pipeline.launchCred O₀ c : sProp 𝕄) ⊢ iprop(cred (tallyAt (barCell c) () 3) ∗ fam (fun l => cred (tallyAt (rcvCell c l) () N))) := by
  unfold Pipeline.launchCred
  rw [bigSep_univ_at _ (SemLoc.reg barS), launch_bar]
  refine sep_mono_right ?_
  refine (bigSep_subset (t := Finset.univ.map rcvLoc) (fun s hs => ?_)).trans ?_
  · obtain ⟨l, -, rfl⟩ := Finset.mem_map.mp hs
    exact Finset.mem_erase.mpr ⟨(fun h => by cases h), Finset.mem_univ _⟩
  · rw [bigSep_map, ← univ_fam]
    exact bigSep_mono fun l _ => Entails.of_eq (congrArg cred (launch_rcv c l))

end Cert.KernelIdeal.Run

end
-- ==== Proof.Value.lean ====
/- What a device's result holds once every fold is done: each entry its own block's plus its partner's. -/
module

public import proofs.«01_k».proof.Proof.Triples
public import Idealize.ShloMosaic.Lib.ValueLayout

@[expose] public section

noncomputable section

namespace Cert.KernelIdeal.Run

open Cert.KernelIdeal Cert.KernelIdeal.Gen
open Idealize.ShloMosaic
open Idealize.ShloMosaic.TcCoe

variable {F : FTy → Type} [FloatOps F]

variable (X : XS F)

/-- The device on the other side of the x axis that sends row `r`. -/
def partner (c : Dev nD) (r : Fin 2048) : Dev nD := ⟨4 * (1 - c.val / 4) + r.val / 512, by
  have := r.isLt; show _ < 8; have : 4 * (1 - c.val / 4) ≤ 4 := by omega
  omega⟩

/-- Where an argument block holds row `r` and column `q` of the half of the columns device `c` computes. -/
def at0 (c : Dev nD) (r : Fin 2048) (q : Fin 512) : S1x2048x1024.Idx :=
  ValueIdx.ix3 (0 : Fin 1) r (⟨512 * (c.val / 4) + q.val, by have h : c.val < 8 := c.isLt; have := q.isLt; omega⟩ : Fin 1024)

/-- The device's own half of the columns, -/
def own (c : Dev nD) : Vec F S2048x512 .bf16 := fun i => X c (at0 c (i 0) (i 1))
/-- and the same columns of the devices across x. -/
def oth (c : Dev nD) : Vec F S2048x512 .bf16 := fun i => X (partner c (i 0)) (at0 c (i 0) (i 1))
/-- The result: the two widened, added, narrowed. -/
def outAt (c : Dev nD) : Vec F S2048x512 .bf16 :=
  truncf .bf16 (addf (extf .f32 (own X c) bitsLt_bf16_f32) (extf .f32 (oth X c) bitsLt_bf16_f32)) bitsLt_bf16_f32

theorem xOff_eq (c : Dev nD) (l : Lk) : xOff c l 0 = 0 ∧ xOff c l 1 = oOff c l 0 ∧ xOff c l 2 = 512 * (c.val / 4) := by
  revert l c; decide +kernel
/-- The rows a fold adds are the rows the sender staged, and its columns the folding device's. -/
theorem sent_eq (c : Dev nD) (l : Lk) : k0_off1 (org (peer c l) l) (BitVec.ofNat 32 (64 * (chk l).val)) 0 = 0
    ∧ k0_off1 (org (peer c l) l) (BitVec.ofNat 32 (64 * (chk l).val)) 1 = oOff c l 0
    ∧ k0_off1 (org (peer c l) l) (BitVec.ofNat 32 (64 * (chk l).val)) 2 = 512 * (c.val / 4) := by
  revert l c; decide +kernel
theorem org_eq (c : Dev nD) (l : Lk) : (org (peer c l) l).val = 4 * (1 - c.val / 4) + blk c l / 8 := by
  revert l c; decide +kernel

/-- A chunk of an argument block at an index. -/
theorem chunk_apply (f : (cc0_stg0_0 : Ref sig .tc).ty.Contents (Elt F)) (off : Fin 3 → ℕ) (inb : ∀ a, off a + S1x64x512.size a ≤ S1x2048x1024.size a)
    (j : S64x512.Idx) (i : S1x2048x1024.Idx) (h0 : (i 0).val = off 0) (h1 : (i 1).val = off 1 + (j 0).val) (h2 : (i 2).val = off 2 + (j 1).val) :
    shapeCast S64x512 ((xM.access (Rect.unit (s := S1x2048x1024) off S1x64x512.size inb)).read (Elt F) f) shapeCasts_S1x64x512_S64x512 j = f i := by
  have hj : j = ValueIdx.ix2 (j 0) (j 1) := funext fun a => by fin_cases a <;> rfl
  rw [hj]
  refine (ValueIdx.shapeCast_1ab_ab_apply _ _ _ _).trans ?_
  show f _ = f i
  refine congrArg f (Shape.idx3_ext ?_ ?_ ?_)
  · rw [h0]; show off 0 + 1 * 0 = off 0; omega
  · rw [h1]; show off 1 + 1 * (j 0).val = _; omega
  · rw [h2]; show off 2 + 1 * (j 1).val = _; omega

theorem emb_row (c : Dev nD) (l : Lk) (j : S64x512.Idx) : ((oR c l).emb j 0).val = oOff c l 0 + (j 0).val := by
  show oOff c l 0 + 1 * (j 0).val = _; omega
theorem emb_col (c : Dev nD) (l : Lk) (j : S64x512.Idx) : ((oR c l).emb j 1).val = (j 1).val := by
  show oOff c l 1 + 1 * (j 1).val = _; rw [oOff_col]; omega

theorem mine_apply (c : Dev nD) (l : Lk) (j : S64x512.Idx) : mine X c l j = own X c ((oR c l).emb j) := by
  obtain ⟨h0, h1, h2⟩ := xOff_eq c l
  refine chunk_apply (X c) _ _ j _ h0.symm ?_ ?_
  · rw [h1]; exact emb_row c l j
  · rw [h2]; exact congrArg (512 * (c.val / 4) + ·) (emb_col c l j)

theorem theirs_apply (c : Dev nD) (l : Lk) (j : S64x512.Idx) : val X (peer c l) l j = oth X c ((oR c l).emb j) := by
  obtain ⟨h0, h1, h2⟩ := sent_eq c l
  have hp : partner c ((oR c l).emb j 0) = org (peer c l) l := Fin.ext (by
    rw [org_eq]
    show 4 * (1 - c.val / 4) + ((oR c l).emb j 0).val / 512 = _
    rw [emb_row, oOff_row]
    have hj : (j 0).val < 64 := (j 0).isLt
    omega)
  unfold oth
  rw [hp]
  refine chunk_apply (X _) _ _ j _ h0.symm ?_ ?_
  · rw [h1]; exact emb_row c l j
  · rw [h2]; exact congrArg (512 * (c.val / 4) + ·) (emb_col c l j)

/-- On every fold's rows the result is what the fold stores. -/
theorem fv_apply (c : Dev nD) (l : Lk) (j : S64x512.Idx) : fv X c l j = outAt X c ((oR c l).emb j) := by
  show fold2 (mine X c l) (val X (peer c l) l) j = _
  rw [show mine X c l = fun j => own X c ((oR c l).emb j) from funext (mine_apply X c l),
    show val X (peer c l) l = fun j => oth X c ((oR c l).emb j) from funext (theirs_apply X c l)]
  rfl

/-- Contents right on every fold's rows are the result. -/
theorem out_eq (c : Dev nD) (f : (cc0_stg1_0 : Ref sig .tc).ty.Contents (Elt F)) (h : ∀ l, (oM.access (oR c l)).read (Elt F) f = fv X c l) : f = outAt X c := by
  funext i
  have hi : (i 0).val < 2048 := (i 0).isLt
  obtain ⟨l, hl⟩ := blk_surj c ⟨(i 0).val / 64, by omega⟩
  have hl : blk c l = (i 0).val / 64 := hl
  let j : S64x512.Idx := ValueIdx.ix2 (⟨(i 0).val % 64, Nat.mod_lt _ (by decide)⟩ : Fin 64) (i 1)
  have e : (oR c l).emb j = i := by
    funext a
    fin_cases a
    · refine Fin.ext ((emb_row c l j).trans ?_)
      rw [oOff_row, hl]
      show 64 * ((i 0).val / 64) + (i 0).val % 64 = (i 0).val
      omega
    · exact Fin.ext (emb_col c l j)
  have := congrFun (h l) j
  rw [fv_apply, e] at this
  rw [← this]
  show f i = f ((oR c l).emb j)
  rw [e]

end Cert.KernelIdeal.Run

end
-- ==== Proof.Main.lean ====
/- The run: from any memory the program ends with every device's argument block unchanged, its result at the folded contents
   and every semaphore counter at zero. -/
module

public import proofs.«01_k».proof.Proof.Ghost
public import proofs.«01_k».proof.Proof.Value

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body between whole buffers -/

section Whole
variable (X : XS F)

/-- What a device's body starts from besides its scratch: the protocol's ghost state, its credit and the order of waits. -/
def start (c : Dev nD) : sProp 𝕄 :=
  iprop(G' X c ∗ (cred (tallyAt (barCell c) () 3) ∗ fam (fun l => cred (tallyAt (rcvCell c l) () N))) ∗ levAts L lv)

/-- What it leaves: every semaphore of its own at zero, and its scratch. -/
def stop (c : Dev nD) : sProp 𝕄 :=
  iprop((semVal (barCell c) 0 ∗ fam (zS (F := F) c) ∗ fam (zR (F := F) c)) ∗ scratch (F := F) c)

theorem start_body (c : Dev nD) :
    iprop(linear (F := F) c ∗ (cred (tallyAt (barCell c) () 3) ∗ fam (fun l => cred (tallyAt (rcvCell c l) () N))) ∗ scratch (F := F) c) ⊢ bodyIn (F := F) c := by
  have hA : (fam fun l => armed (F := F) (rcvCell c l)) = iprop(fam (fun l => atPos ER (rcvCell c l) 0 ∅ 0) ∗ fam (fun l => cred (tallyAt (rcvCell c l) () N))) :=
    fam_sep _ _
  have hT : fam (sendTok (F := F) c) = iprop(fam (fun l => dutyTok ER (sndCell c l) 0 0) ∗ fam (fun l => dutyTok ER (rcvCell (peer c l) l) 0 0)) :=
    fam_sep _ _
  unfold linear payToks bodyIn
  rw [hA, hT, cell_fam]
  iintro ⟨⟨⟨Hb, Hs, Hr⟩, Htb, Hts, Htr⟩, ⟨Hc, Hcr⟩, Hscr⟩
  ihave Hscr := (scratch_split (F := F) c) $$ Hscr
  icases Hscr with ⟨Hst, Hl⟩
  isplitl [Htb]; · iexact Htb
  isplitl [Hb Hc]
  · isplitl [Hb]; · iexact Hb
    iexact Hc
  isplitl [Hl]; · iexact Hl
  isplitl [Hst]; · iexact Hst
  isplitl [Hr Hcr]
  · isplitl [Hr]; · iexact Hr
    iexact Hcr
  isplitl [Hts Htr]
  · isplitl [Hts]; · iexact Hts
    iexact Htr
  iexact Hs

/-- The body from whole buffers to whole buffers. -/
theorem body_whole (c : Dev nD) (f : (cc0_stg1_0 : Ref sig .tc).ty.Contents (Elt F)) (W : Waits sig Unit) :
    iprop(start X c ∗ scratch (F := F) c ∗ xPts X c ∗ oPts c f ∗ owes (c : Thread nD τ) (O₀ c) W)
      ⊢ WP c (bodyP c) (fun _ => iprop(stop (F := F) c ∗ xPts X c ∗ oPts c (outAt X c) ∗ ∃ W, owes (c : Thread nD τ) 0 W)) := by
  unfold start G'
  iintro ⟨⟨⟨%K, #HR, Hlin⟩, Hcr, #HL⟩, Hscr, Hx, Ho, HO⟩
  ihave Hin := (start_body (F := F) c) $$ [Hlin Hcr Hscr]
  · isplitl [Hlin]; · iexact Hlin
    isplitl [Hcr] <;> iassumption
  iapply (run_last c (body_run X K c f W)) $$ [Hin Hx Ho HO]
  · isplitr; · iexact HR
    isplitr; · iexact HL
    isplitl [Hin]; · iexact Hin
    isplitl [Hx]; · iexact Hx
    isplitl [Ho] <;> iassumption
  unfold bodyOut Env oSt
  iintro ⟨⟨Hb, Hr, Hs, Hsp, Hh⟩, Hx, ⟨%g, %hg, Ho⟩, HO⟩
  have e : g = outAt X c := out_eq X c g (fun l => hg l List.not_mem_nil)
  subst e
  isplitl [Hb Hr Hs Hsp Hh]
  · unfold stop
    isplitl [Hb Hr Hs]
    · isplitl [Hb]; · iexact Hb
      isplitl [Hs] <;> iassumption
    iapply (scratch_join X (fun n _ => X c (at0 c 0 0)) c)
    isplitl [Hsp] <;> iassumption
  isplitl [Hx]; · iexact Hx
  isplitl [Ho]; · iexact Ho
  iexact HO

end Whole

/-! ## The pipeline's proof data -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Every device's argument block. -/
def xstg : XS F := fun c => (win0_0.blk (0 : Fin 1)).view.read (Elt F) ((s₀ m ρ).mem ((c : Thread nD τ).loc main_arg0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(start (xstg m ρ) c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt (xstg m ρ) c
  Φ t := match t with
    | ⟨0, _⟩ => Φ₀ m ρ c
    | ⟨_ + 1, _⟩ => stop (F := F) c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(stop (F := F) c ∗ (dats m ρ 0 c).owesAt () t₀.succ ∗ stg c cc0_stg0_0 (xstg m ρ c) ∗ stg c cc0_stg1_0 (outAt (xstg m ρ) c))

/-- The body from what the pipeline hands it to what the pipeline takes back. -/
theorem body_sound (c : Dev nD) : bodyPre m ρ c ⊢ WP c (bodyP c) (fun _ => bodyPost m ρ c) := by
  unfold bodyPre Φ₀
  iintro ⟨⟨Hs, Hscr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (run_last c (body_whole (xstg m ρ) c g1 W)) $$ [Hs Hscr Hx Hout HO]
  · isplitl [Hs]; · iexact Hs
    isplitl [Hscr]; · iexact Hscr
    isplitl [Hx]; · unfold xPts; iexact Hx
    isplitl [Hout]; · unfold oPts; iexact Hout
    iexact HO
  unfold xPts oPts bodyPost Dat.owesAt Pipeline.owesWithin
  rw [show (dats m ρ 0 c).owed t₀.succ = 0 from rfl]
  iintro ⟨Hs, Hx, Hout, ⟨%W', HO⟩⟩
  isplitl [Hs]; · iexact Hs
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
/-- The pipeline's obligation on each device's body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15)
    (fun _ => bodyPost m ρ c)
  rw [body_eq]
  simp only [Prog.lift, Prog.bind_op, Prog.bind_ret, bind, Prog.bind, wp_deviceId]
  exact body_sound m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) c)
      ⊢ |={Set.univ}=> iprop(start (xstg m ρ) c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start (xstg m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = stop (F := F) c from rfl, scopedRest0_eq, ownSems0_eq, unscopedSems0_eq]
  unfold stop scratch
  iintro ⟨⟨HB, HZ⟩, Hr⟩
  isplitl [HB]; · iexact HB
  isplitl [HZ]; · iexact HZ
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What the window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters, every weakly fair execution ends, with both arrays at their
    computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_cells (xstg m ρ)) $$ HX with HG
      imodintro
      isplitl [HP] <;> iassumption)
    (hglob := glob (xstg m ρ))
    (hA := fun _ _ => rfl) (hpf := fun _ k => k.elim0)
    (X := start (xstg m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument block after the run is the one before. -/
theorem finalA_x (c : Dev nD) : finalA m ρ c (0 : Fin 2) = (s₀ m ρ).mem (win0_0.arr.view.loc (c : Thread nD τ)) :=
  (dats (F := F) m ρ 0 c).arrAt_in (0 : Fin 2) rfl _

/-- The program runs, its argument blocks end unchanged and every semaphore counter ends at zero. -/
theorem frame_main : θ_run defs (onTc (τ := τ) (main (F := F))) (s₀ m ρ)
    (fun r => (∀ c : Dev nD, r.2.mem ((c : Thread nD τ).loc main_arg0) = m ((c : Thread nD τ).loc main_arg0)) ∧ r.2.sem = fun _ => 0) :=
  (θ_run defs _ _).mono (fun _ h => ⟨fun c => (h.1 c 0).trans (finalA_x m ρ c), h.2⟩) (run_main m ρ)

end Cert.KernelIdeal.Run

end
-- ==== Proof.Equation.lean ====
/- The value equation on the extended reals: what the kernel leaves on each device is that device's block of the
   reference's sum over the leading axis. -/
module

public import proofs.«01_k».proof.Defs
public import proofs.«01_k».proof.Proof.Main
public import proofs.«01_k».proof.Proof.Kernel.Main
public import proofs.«01_k».proof.Proof.Gen.ReferenceIdeal.Run
public import Idealize.ShloMosaic.Lib.Pipeline.ValueKit.Geometry
public import Idealize.ShloMosaic.Lib.Pointwise

@[expose] public section

noncomputable section

namespace Cert.KernelIdeal.Run

open Cert.KernelIdeal Cert.KernelIdeal.Gen
open Idealize.ShloMosaic
open Idealize.ShloMosaic.TcCoe
open Idealize.SL Idealize.SL.Sem

section Arrays
variable {F : FTy → Type} [FloatOps F]
variable (m : (ℓ : Loc nD τ sig) → Buf (Elt F) ℓ) (ρ : Dev nD → PrngReg)

/-- The staged argument block is the argument block. -/
theorem xstg_eq (c : Dev nD) : xstg m ρ c = m ((c : Thread nD τ).loc main_arg0) := by
  funext i
  show m ((c : Thread nD τ).loc main_arg0) _ = m ((c : Thread nD τ).loc main_arg0) i
  refine congrArg _ (Shape.idx3_ext ?_ ?_ ?_)
  · show 0 * 1 + 1 * (i 0).val = (i 0).val; omega
  · show 0 * 2048 + 1 * (i 1).val = (i 1).val; omega
  · show 0 * 1024 + 1 * (i 2).val = (i 2).val; omega

/-- The result array after the run holds the folded contents. -/
theorem finalA_out (c : Dev nD) : finalA m ρ c (1 : Fin 2) = outAt (xstg m ρ) c :=
  (dats (F := F) m ρ 0 c).arrAt_eq_of_after_last (1 : Fin 2) t₀ (by decide +kernel) (outAt (xstg m ρ) c) (fun j => rfl)

end Arrays

/-! ## At the ideal instance -/

/-- The reference's result on whole contents `V`: widened, summed over the leading axis from zero, narrowed. -/
def total (V : FVec Ideal Cert.ReferenceIdeal.S2x2048x1024 .bf16) : FVec Ideal Cert.ReferenceIdeal.S2048x1024 .bf16 :=
  truncf .bf16 (Host.reduceAdd (extf .f32 V Cert.ReferenceIdeal.Gen.bitsLt_bf16_f32) (constant (F := Ideal) Cert.ReferenceIdeal.S_ .f32 0x00000000#32)
    Cert.ReferenceIdeal.Gen.reducesTo_S2x2048x1024_S2048x1024_d0 Cert.ReferenceIdeal.Gen.h_S_) Cert.ReferenceIdeal.Gen.bitsLt_bf16_f32

/-- It is the sum of the two leading blocks. -/
theorem total_apply (V : FVec Ideal Cert.ReferenceIdeal.S2x2048x1024 .bf16) (r : Fin 2048) (y : Fin 1024) :
    total V (ValueIdx.ix2 r y) = (V (ValueIdx.ix3 (0 : Fin 2) r y) + V (ValueIdx.ix3 (1 : Fin 2) r y) : EReal) := by
  unfold total
  pointwise
  exact Fin.sum_univ_two _

/-- What the kernel computes is the sum of the device's own block and its partner's. -/
theorem outAt_apply (X : XS Ideal) (c : Dev nD) (i : S2048x512.Idx) :
    outAt X c i = HAdd.hAdd (α := EReal) (β := EReal) (γ := EReal) (X c (at0 c (i 0) (i 1))) (X (partner c (i 0)) (at0 c (i 0) (i 1))) := rfl

/-- Device `c`'s argument block of whole contents `V`. -/
abbrev argBlk (V : FVec Ideal Cert.ReferenceIdeal.S2x2048x1024 .bf16) (c : Dev nD) : FVec Ideal S1x2048x1024 .bf16 :=
  Layout.blockN ⟨3, ![1, 2048, 1024]⟩ ⟨3, ![2, 2048, 1024]⟩ (Layout.meshBlock [2, 2, 2] ![[0], [], []] c) V

/-- A device's coordinate on the first axis of the mesh. -/
theorem mesh_x (c : Dev nD) : Layout.meshLin [2, 2, 2] c.val [0] = c.val / 4 := by
  revert c; decide +kernel

/-- A coordinate of a block's index in the whole array. -/
theorem idx_val_of {S T : Shape} {kN : Fin S.rank → ℕ} (h : Layout.TilesN S T kN) (j : (b : Fin S.rank) → Fin (kN b)) (i : S.Idx) (b : Fin T.rank)
    (x s y : ℕ) (hx : (j (b.cast h.rank.symm)).val = x) (hs : S.size (b.cast h.rank.symm) = s) (hy : (i (b.cast h.rank.symm)).val = y) :
    (h.idx j i b).val = x * s + y := by
  rw [Layout.TilesN.idx_val, hx, hy, hs]

/-- The column of the whole arrays that column `q` of device `c`'s result is. -/
def col (c : Dev nD) (q : Fin 512) : Fin 1024 := ⟨512 * (c.val / 4) + q.val, by have h : c.val < 8 := c.isLt; have := q.isLt; omega⟩

theorem argBlk_at0 (V : FVec Ideal Cert.ReferenceIdeal.S2x2048x1024 .bf16) (c d : Dev nD) (k : Fin 2) (hk : d.val / 4 = k.val) (r : Fin 2048) (q : Fin 512) :
    argBlk V d (at0 c r q) = V (ValueIdx.ix3 k r (col c q)) := by
  refine congrArg V (Shape.idx3_ext ?_ ?_ ?_)
  · refine (idx_val_of _ _ _ _ (d.val / 4) 1 0 (mesh_x d) rfl rfl).trans ?_
    rw [Nat.mul_one]; exact hk
  · refine (idx_val_of _ _ _ _ 0 2048 r.val rfl rfl rfl).trans ?_
    rw [Nat.zero_mul, Nat.zero_add]
  · refine (idx_val_of _ _ _ _ 0 1024 (col c q).val rfl rfl rfl).trans ?_
    rw [Nat.zero_mul, Nat.zero_add]

theorem res_idx (c : Dev nD) (i : S2048x512.Idx) (h : Layout.TilesN ⟨2, ![2048, 512]⟩ ⟨2, ![2048, 1024]⟩ (fun b => Layout.cutSize [2, 2, 2] ((![[], [0]] : Fin 2 → List ℕ) b))) :
    h.idx (Layout.meshBlock [2, 2, 2] ![[], [0]] c) i = ValueIdx.ix2 (i 0) (col c (i 1)) := by
  funext a
  fin_cases a
  · refine Fin.ext ((idx_val_of _ _ _ _ 0 2048 (i 0).val rfl rfl rfl).trans ?_)
    rw [Nat.zero_mul, Nat.zero_add]
  · refine Fin.ext ((idx_val_of _ _ _ _ (c.val / 4) 512 (i 1).val (mesh_x c) rfl rfl).trans ?_)
    rw [Nat.mul_comm]; rfl

/-- The kernel's result on device `c` is its block of the reference's. -/
theorem out_total (V : FVec Ideal Cert.ReferenceIdeal.S2x2048x1024 .bf16) (c : Dev nD) :
    outAt (F := Ideal) (argBlk V) c = Layout.blockN ⟨2, ![2048, 512]⟩ ⟨2, ![2048, 1024]⟩ (Layout.meshBlock [2, 2, 2] ![[], [0]] c) (total V) := by
  funext i
  have hc : c.val < 8 := c.isLt
  have h0 : (i 0).val < 2048 := (i 0).isLt
  have hp : (partner c (i 0)).val / 4 = 1 - c.val / 4 := by
    show (4 * (1 - c.val / 4) + (i 0).val / 512) / 4 = _; omega
  refine (outAt_apply (argBlk V) c i).trans ?_
  refine Eq.trans ?_ (((congrArg (total V) (res_idx c i _)).trans (total_apply V (i 0) (col c (i 1)))).symm)
  rcases (by omega : c.val / 4 = 0 ∨ c.val / 4 = 1) with h | h
  · have e := argBlk_at0 V c c 0 h (i 0) (i 1)
    have e' := argBlk_at0 V c (partner c (i 0)) 1 (by rw [hp, h]; rfl) (i 0) (i 1)
    exact congrArg₂ (fun a b : EReal => a + b) e e'
  · have e := argBlk_at0 V c c 1 h (i 0) (i 1)
    have e' := argBlk_at0 V c (partner c (i 0)) 0 (by rw [hp, h]; rfl) (i 0) (i 1)
    exact (congrArg₂ (fun a b : EReal => a + b) e e').trans (add_comm (G := EReal) _ _)

end Cert.KernelIdeal.Run

namespace Cert.Proof

open Idealize.ShloMosaic
open Idealize.ShloMosaic.TcCoe
open Idealize.SL Idealize.SL.Sem

/-- The printed kernel's frame. -/
theorem frame_kernel : Cert.quiescent_Kernel := fun m ρ _ => Cert.Kernel.Run.frame_main m ρ

/-- The idealized kernel's frame. -/
theorem frame_ideal : Cert.quiescent_KernelIdeal := fun m ρ _ => Cert.KernelIdeal.Run.frame_main m ρ

/-- The reference's frame: its run read at its argument; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The value claim: every device ends with its block of the reference's result. -/
theorem value_eq : Cert.algebraic_KernelIdeal_ReferenceIdeal := by
  intro m ρ m' ρ' _ hm
  refine ⟨Cert.KernelIdeal.Run.total (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨?_, (h.1 c 0).trans (Cert.KernelIdeal.Run.finalA_x m ρ c)⟩) (Cert.KernelIdeal.Run.run_main m ρ)
    refine ((h.1 c 1).trans (Cert.KernelIdeal.Run.finalA_out m ρ c)).trans ?_
    rw [show Cert.KernelIdeal.Run.xstg m ρ = Cert.KernelIdeal.Run.argBlk (m' (((0 : Dev Cert.ReferenceIdeal.nD).tc : Thread Cert.ReferenceIdeal.nD Cert.ReferenceIdeal.τ).loc Cert.ReferenceIdeal.main_arg0))
      from funext fun d => (Cert.KernelIdeal.Run.xstg_eq m ρ d).trans (hm d)]
    exact Cert.KernelIdeal.Run.out_total _ c
  · exact (θ_run Cert.ReferenceIdeal.defs _ _).mono (fun r h => ⟨(h 0).1, (h 0).2⟩) (Cert.ReferenceIdeal.Value.run m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, value_eq⟩

end Cert.Proof

end
